-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "qscale" .f32 0x3E38AA3B#32 (((Real.log 2)⁻¹ * 8⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x1024x1024 : Shape := ⟨3, ![2, 1024, 1024]⟩
abbrev S4x2x1024x1024 : Shape := ⟨4, ![4, 2, 1024, 1024]⟩
abbrev S1024 : Shape := ⟨1, ![1024]⟩
abbrev S1024x1024 : Shape := ⟨2, ![1024, 1024]⟩
abbrev S_ : Shape := ⟨0, ![]⟩

class Facts : Prop where
  bcast_S_S4x2x1024x1024 : S_.BroadcastsInDim S4x2x1024x1024 (![] : Fin 0 → Fin S4x2x1024x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S2x1024x1024 .f32) (main_arg1 : FVec F S4x2x1024x1024 .f32) (main_arg2 : FVec F S1024 .f32) (main_arg3 : FVec F S1024 .f32) (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024 .f32) : IVec S4x2x1024x1024 1 × IVec S1024 1 × IVec S1024 1 × IVec S1024x1024 1 × IVec S1024x1024 1 :=
  let main_v0 : FVec F S4x2x1024x1024 .f32 := Host.absf main_arg1
  let main_cst : FVec F S_ .f32 := constant S_ .f32 0x7F800000#32
  let main_v1 : FVec F S4x2x1024x1024 .f32 := broadcastInDim S4x2x1024x1024 ![] bcast_S_S4x2x1024x1024 main_cst
  let main_v2 : IVec S4x2x1024x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg4
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x1024 .f32 := Host.absf main_arg5
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  (main_v2, main_v5, main_v8, main_v11, main_v14)
-- ==== Kernel.lean ====
abbrev S2x1024x1024 : Shape := ⟨3, ![2, 1024, 1024]⟩
abbrev S4x2x1024x1024 : Shape := ⟨4, ![4, 2, 1024, 1024]⟩
abbrev S1024 : Shape := ⟨1, ![1024]⟩
abbrev S1024x1024 : Shape := ⟨2, ![1024, 1024]⟩
abbrev S1024x3072 : Shape := ⟨2, ![1024, 3072]⟩
abbrev S1024x2048 : Shape := ⟨2, ![1024, 2048]⟩
abbrev S1x1024 : Shape := ⟨2, ![1, 1024]⟩
abbrev S1024x1 : Shape := ⟨2, ![1024, 1]⟩
abbrev S32 : Shape := ⟨1, ![32]⟩
abbrev S_ : Shape := ⟨0, ![]⟩
abbrev S1x32 : Shape := ⟨2, ![1, 32]⟩
abbrev S1024x32 : Shape := ⟨2, ![1024, 32]⟩
abbrev S1024x64 : Shape := ⟨2, ![1024, 64]⟩
abbrev S2x16x4096x64 : Shape := ⟨4, ![2, 16, 4096, 64]⟩
abbrev S2x16x4096x128 : Shape := ⟨4, ![2, 16, 4096, 128]⟩
abbrev S1x1x512x1024 : Shape := ⟨4, ![1, 1, 512, 1024]⟩
abbrev S512x64 : Shape := ⟨2, ![512, 64]⟩
abbrev S1x16x512x64 : Shape := ⟨4, ![1, 16, 512, 64]⟩
abbrev S1x16x512x128 : Shape := ⟨4, ![1, 16, 512, 128]⟩
abbrev S512x1024 : Shape := ⟨2, ![512, 1024]⟩
abbrev S512x2048 : Shape := ⟨2, ![512, 2048]⟩
abbrev S512x32 : Shape := ⟨2, ![512, 32]⟩
abbrev S1x1x512x64 : Shape := ⟨4, ![1, 1, 512, 64]⟩
abbrev S512x128 : Shape := ⟨2, ![512, 128]⟩
abbrev S1x1x512x128 : Shape := ⟨4, ![1, 1, 512, 128]⟩
abbrev S2x16x1024x64 : Shape := ⟨4, ![2, 16, 1024, 64]⟩
abbrev S2x16x1024x128 : Shape := ⟨4, ![2, 16, 1024, 128]⟩
abbrev S1x512x1024 : Shape := ⟨3, ![1, 512, 1024]⟩
abbrev S512 : Shape := ⟨1, ![512]⟩
abbrev S512x1 : Shape := ⟨2, ![512, 1]⟩
abbrev S512x3072 : Shape := ⟨2, ![512, 3072]⟩
abbrev S1x1x1024x64 : Shape := ⟨4, ![1, 1, 1024, 64]⟩
abbrev S1x1x4096x64 : Shape := ⟨4, ![1, 1, 4096, 64]⟩
abbrev S1x1x4096x128 : Shape := ⟨4, ![1, 1, 4096, 128]⟩
abbrev S1x1x1024x128 : Shape := ⟨4, ![1, 1, 1024, 128]⟩
abbrev S4096x64 : Shape := ⟨2, ![4096, 64]⟩
abbrev S4096x128 : Shape := ⟨2, ![4096, 128]⟩
abbrev S1024x128 : Shape := ⟨2, ![1024, 128]⟩
abbrev S1x1x256x64 : Shape := ⟨4, ![1, 1, 256, 64]⟩
abbrev S256x64 : Shape := ⟨2, ![256, 64]⟩
abbrev S256x4096 : Shape := ⟨2, ![256, 4096]⟩
abbrev S256x1024 : Shape := ⟨2, ![256, 1024]⟩
abbrev S256x128 : Shape := ⟨2, ![256, 128]⟩
abbrev S256x1 : Shape := ⟨2, ![256, 1]⟩

abbrev nBuf : Space → Nat
  | .hbm => 47
  | .vmem => 53
  | .smem => 0
  | _ => 0

abbrev bufTy : (tb : Table) → Fin (tcTables nBuf tb) → BufTy
  | .hbm, ⟨0, _⟩ => ⟨S2x1024x1024, .f32⟩
  | .hbm, ⟨1, _⟩ => ⟨S4x2x1024x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x3072, .f32⟩
  | .hbm, ⟨11, _⟩ => ⟨S1024x3072, .bf16⟩
  | .hbm, ⟨12, _⟩ => ⟨S1024x2048, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1024x1, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S1x32, .f32⟩
  | .hbm, ⟨31, _⟩ => ⟨S1024x32, .f32⟩
  | .hbm, ⟨32, _⟩ => ⟨S1024x32, .f32⟩
  | .hbm, ⟨33, _⟩ => ⟨S1024x32, .f32⟩
  | .hbm, ⟨34, _⟩ => ⟨S1024x32, .f32⟩
  | .hbm, ⟨35, _⟩ => ⟨S1024x32, .f32⟩
  | .hbm, ⟨36, _⟩ => ⟨S1024x64, .f32⟩
  | .hbm, ⟨37, _⟩ => ⟨S1024x32, .f32⟩
  | .hbm, ⟨38, _⟩ => ⟨S1024x64, .f32⟩
  | .hbm, ⟨39, _⟩ => ⟨S2x16x4096x64, .bf16⟩
  | .hbm, ⟨40, _⟩ => ⟨S2x16x4096x128, .bf16⟩
  | .hbm, ⟨41, _⟩ => ⟨S2x16x1024x64, .bf16⟩
  | .hbm, ⟨42, _⟩ => ⟨S2x16x1024x64, .bf16⟩
  | .hbm, ⟨43, _⟩ => ⟨S2x16x1024x128, .bf16⟩
  | .hbm, ⟨44, _⟩ => ⟨S2x16x1024x64, .bf16⟩
  | .hbm, ⟨45, _⟩ => ⟨S2x1024x1024, .f32⟩
  | .hbm, ⟨46, _⟩ => ⟨S4x2x1024x1024, .f32⟩
  | .local _ .vmem, ⟨0, _⟩ => ⟨S1x1x512x1024, .f32⟩
  | .local _ .vmem, ⟨1, _⟩ => ⟨S1x1x512x1024, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S1024x2048, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x128, .bf16⟩
  | .local _ .vmem, ⟨10, _⟩ => ⟨S1x16x512x128, .bf16⟩
  | .local _ .vmem, ⟨11, _⟩ => ⟨S1x512x1024, .f32⟩
  | .local _ .vmem, ⟨12, _⟩ => ⟨S1x512x1024, .f32⟩
  | .local _ .vmem, ⟨13, _⟩ => ⟨S1x1024, .f32⟩
  | .local _ .vmem, ⟨14, _⟩ => ⟨S1x1024, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S1024x3072, .bf16⟩
  | .local _ .vmem, ⟨20, _⟩ => ⟨S1x16x512x64, .bf16⟩
  | .local _ .vmem, ⟨21, _⟩ => ⟨S1x16x512x64, .bf16⟩
  | .local _ .vmem, ⟨22, _⟩ => ⟨S1x16x512x64, .bf16⟩
  | .local _ .vmem, ⟨23, _⟩ => ⟨S1x16x512x64, .bf16⟩
  | .local _ .vmem, ⟨24, _⟩ => ⟨S1x16x512x128, .bf16⟩
  | .local _ .vmem, ⟨25, _⟩ => ⟨S1x16x512x128, .bf16⟩
  | .local _ .vmem, ⟨26, _⟩ => ⟨S1x1x1024x64, .bf16⟩
  | .local _ .vmem, ⟨27, _⟩ => ⟨S1x1x1024x64, .bf16⟩
  | .local _ .vmem, ⟨28, _⟩ => ⟨S1x1x4096x64, .bf16⟩
  | .local _ .vmem, ⟨29, _⟩ => ⟨S1x1x4096x64, .bf16⟩
  | .local _ .vmem, ⟨30, _⟩ => ⟨S1x1x1024x64, .bf16⟩
  | .local _ .vmem, ⟨31, _⟩ => ⟨S1x1x1024x64, .bf16⟩
  | .local _ .vmem, ⟨32, _⟩ => ⟨S1x1x4096x128, .bf16⟩
  | .local _ .vmem, ⟨33, _⟩ => ⟨S1x1x4096x128, .bf16⟩
  | .local _ .vmem, ⟨34, _⟩ => ⟨S1x1x1024x128, .bf16⟩
  | .local _ .vmem, ⟨35, _⟩ => ⟨S1x1x1024x128, .bf16⟩
  | .local _ .vmem, ⟨36, _⟩ => ⟨S1x1x1024x64, .bf16⟩
  | .local _ .vmem, ⟨37, _⟩ => ⟨S1x1x1024x64, .bf16⟩
  | .local _ .vmem, ⟨38, _⟩ => ⟨S1x16x512x64, .bf16⟩
  | .local _ .vmem, ⟨39, _⟩ => ⟨S1x16x512x64, .bf16⟩
  | .local _ .vmem, ⟨40, _⟩ => ⟨S1x512x1024, .f32⟩
  | .local _ .vmem, ⟨41, _⟩ => ⟨S1x512x1024, .f32⟩
  | .local _ .vmem, ⟨42, _⟩ => ⟨S1x1x512x1024, .f32⟩
  | .local _ .vmem, ⟨43, _⟩ => ⟨S1x1x512x1024, .f32⟩
  | .local _ .vmem, ⟨44, _⟩ => ⟨S1024x1024, .bf16⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x512x1024, .f32⟩
  | .local _ .vmem, ⟨50, _⟩ => ⟨S1x512x1024, .f32⟩
  | .local _ .vmem, ⟨51, _⟩ => ⟨S1x1x512x1024, .f32⟩
  | .local _ .vmem, ⟨52, _⟩ => ⟨S1x1x512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg8_1 : Ref sig .tc := ⟨.vmem, 50, rfl⟩
abbrev cc3_stg9_0 : Ref sig .tc := ⟨.vmem, 51, rfl⟩
abbrev cc3_stg9_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem8_1 : DmaSem sig := 50
abbrev cc3_sem9_0 : DmaSem sig := 51
abbrev cc3_sem9_1 : DmaSem sig := 52

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  let c0_i32_1 : BitVec 32 := 0#32
  ![arg0.toNat, c0_i32.toNat, v1.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  let c0_i32_1 : BitVec 32 := 0#32
  ![arg0.toNat, c0_i32.toNat, v1.toNat, c0_i32_0.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1024x3072 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x16x512x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x16x512x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x16x512x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![2, 16], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x4096x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x4096x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x1024x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x1024x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨3, ![2, 2, 4], ![false, false, false]⟩

def k3_cond2 (i : grid3.Coords) : BitVec 1 :=
  let arg2 : BitVec 32 := BitVec.ofNat 32 (i 2).val
  let c3_i32_0 : BitVec 32 := 3#32
  let v3 : BitVec 1 := Scalar.cmpi .eq arg2 c3_i32_0
  let v4 : BitVec 32 := Scalar.extui v3
  let c0_i32_1 : BitVec 32 := 0#32
  let v5 : BitVec 1 := Scalar.cmpi .ne v4 c0_i32_1
  v5

def k3_cond1 (i : grid3.Coords) : BitVec 1 :=
  let arg2 : BitVec 32 := BitVec.ofNat 32 (i 2).val
  let c3_i32 : BitVec 32 := 3#32
  let v0 : BitVec 1 := Scalar.cmpi .slt arg2 c3_i32
  let v1 : BitVec 32 := Scalar.extui v0
  let c0_i32 : BitVec 32 := 0#32
  let v2 : BitVec 1 := Scalar.cmpi .ne v1 c0_i32
  v2

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c3_i32 : BitVec 32 := 3#32
  let v1 : BitVec 32 := Scalar.minsi v0 c3_i32
  let c0_i32 : BitVec 32 := 0#32
  let c0_i32_0 : BitVec 32 := 0#32
  ![v1.toNat, arg0.toNat, arg1.toNat, c0_i32.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_9 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

abbrev stage3_0 : Fin 2 → Memref sig .tc .vmem S1x16x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false, false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false, false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false, false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false, false]

abbrev stage3_8 : Fin 2 → Memref sig .tc .vmem S1x512x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true, false]

abbrev stage3_9 : Fin 2 → Memref sig .tc .vmem S1x1x512x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true, true]
-- ==== KernelIdeal.lean ====
variable {F : FTy → Type} [FloatOps F] [Named F]
def κ : String → Option EReal := fun
  | "qscale" => some (((Real.log 2)⁻¹ * 8⁻¹ : ℝ) : EReal)
  | _ => none
-- ==== ReferenceIdeal.lean ====
abbrev S2x1024x1024 : Shape := ⟨3, ![2, 1024, 1024]⟩
abbrev S4x2x1024x1024 : Shape := ⟨4, ![4, 2, 1024, 1024]⟩
abbrev S1024 : Shape := ⟨1, ![1024]⟩
abbrev S1024x1024 : Shape := ⟨2, ![1024, 1024]⟩
abbrev S_ : Shape := ⟨0, ![]⟩
abbrev S2x1024 : Shape := ⟨2, ![2, 1024]⟩
abbrev S2x1024x1 : Shape := ⟨3, ![2, 1024, 1]⟩
abbrev S1x1x1024 : Shape := ⟨3, ![1, 1, 1024]⟩
abbrev S2x4x1024x1024 : Shape := ⟨4, ![2, 4, 1024, 1024]⟩
abbrev S2x4096x1024 : Shape := ⟨3, ![2, 4096, 1024]⟩
abbrev S2x5120x1024 : Shape := ⟨3, ![2, 5120, 1024]⟩
abbrev S2x1024x16x64 : Shape := ⟨4, ![2, 1024, 16, 64]⟩
abbrev S2x5120x16x64 : Shape := ⟨4, ![2, 5120, 16, 64]⟩
abbrev S1x1024 : Shape := ⟨2, ![1, 1024]⟩
abbrev S5x1024 : Shape := ⟨2, ![5, 1024]⟩
abbrev S5120 : Shape := ⟨1, ![5120]⟩
abbrev S32 : Shape := ⟨1, ![32]⟩
abbrev S1024x1 : Shape := ⟨2, ![1024, 1]⟩
abbrev S1x32 : Shape := ⟨2, ![1, 32]⟩
abbrev S1024x32 : Shape := ⟨2, ![1024, 32]⟩
abbrev S1x1024x1x32 : Shape := ⟨4, ![1, 1024, 1, 32]⟩
abbrev S2x1024x16x32 : Shape := ⟨4, ![2, 1024, 16, 32]⟩
abbrev S5120x1 : Shape := ⟨2, ![5120, 1]⟩
abbrev S5120x32 : Shape := ⟨2, ![5120, 32]⟩
abbrev S1x5120x1x32 : Shape := ⟨4, ![1, 5120, 1, 32]⟩
abbrev S2x5120x16x32 : Shape := ⟨4, ![2, 5120, 16, 32]⟩
abbrev S2x16x1024x5120 : Shape := ⟨4, ![2, 16, 1024, 5120]⟩
abbrev S2x16x1024 : Shape := ⟨3, ![2, 16, 1024]⟩
abbrev S2x16x1024x1 : Shape := ⟨4, ![2, 16, 1024, 1]⟩
abbrev S2x16x64x1024 : Shape := ⟨4, ![2, 16, 64, 1024]⟩
abbrev S1x2x1024x1024 : Shape := ⟨4, ![1, 2, 1024, 1024]⟩
abbrev S3x2x1024x1024 : Shape := ⟨4, ![3, 2, 1024, 1024]⟩

abbrev nBuf : Space → Nat
  | .hbm => 200
  | .vmem => 0
  | .smem => 0
  | _ => 0

abbrev hbmTy0_0 (i : Nat) : BufTy := match i % 128 with
  | 0 => ⟨S2x1024x1024, .f32⟩
  | 1 => ⟨S4x2x1024x1024, .f32⟩
  | 2 => ⟨S1024, .f32⟩
  | 3 => ⟨S1024, .f32⟩
  | 4 => ⟨S1024x1024, .f32⟩
  | 5 => ⟨S1024x1024, .f32⟩
  | 6 => ⟨S1024x1024, .f32⟩
  | 7 => ⟨S1024x1024, .f32⟩
  | 8 => ⟨S1024, .f32⟩
  | 9 => ⟨S1024, .f32⟩
  | 10 => ⟨S_, .f32⟩
  | 11 => ⟨S2x1024, .f32⟩
  | 12 => ⟨S2x1024x1, .f32⟩
  | 13 => ⟨S_, .f32⟩
  | 14 => ⟨S2x1024x1, .f32⟩
  | 15 => ⟨S2x1024x1, .f32⟩
  | 16 => ⟨S2x1024x1024, .f32⟩
  | 17 => ⟨S2x1024x1024, .f32⟩
  | 18 => ⟨S2x1024x1024, .f32⟩
  | 19 => ⟨S_, .f32⟩
  | 20 => ⟨S2x1024, .f32⟩
  | 21 => ⟨S2x1024x1, .f32⟩
  | 22 => ⟨S_, .f32⟩
  | 23 => ⟨S2x1024x1, .f32⟩
  | 24 => ⟨S2x1024x1, .f32⟩
  | 25 => ⟨S2x1024x1024, .f32⟩
  | 26 => ⟨S2x1024x1024, .f32⟩
  | 27 => ⟨S_, .f32⟩
  | 28 => ⟨S2x1024x1, .f32⟩
  | 29 => ⟨S2x1024x1, .f32⟩
  | 30 => ⟨S2x1024x1, .f32⟩
  | 31 => ⟨S2x1024x1024, .f32⟩
  | 32 => ⟨S2x1024x1024, .f32⟩
  | 33 => ⟨S1x1x1024, .f32⟩
  | 34 => ⟨S2x1024x1024, .f32⟩
  | 35 => ⟨S2x1024x1024, .f32⟩
  | 36 => ⟨S1x1x1024, .f32⟩
  | 37 => ⟨S2x1024x1024, .f32⟩
  | 38 => ⟨S2x1024x1024, .f32⟩
  | 39 => ⟨S2x4x1024x1024, .f32⟩
  | 40 => ⟨S2x4096x1024, .f32⟩
  | 41 => ⟨S2x5120x1024, .f32⟩
  | 42 => ⟨S2x1024x1024, .f32⟩
  | 43 => ⟨S2x1024x16x64, .f32⟩
  | 44 => ⟨S2x5120x1024, .f32⟩
  | 45 => ⟨S2x5120x16x64, .f32⟩
  | 46 => ⟨S2x5120x1024, .f32⟩
  | 47 => ⟨S2x5120x16x64, .f32⟩
  | 48 => ⟨S1024, .i32⟩
  | 49 => ⟨S1024, .i32⟩
  | 50 => ⟨S1x1024, .i32⟩
  | 51 => ⟨S5x1024, .i32⟩
  | 52 => ⟨S5120, .i32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S1024, .f32⟩
  | 64 => ⟨S1024x1, .f32⟩
  | 65 => ⟨S1x32, .f32⟩
  | 66 => ⟨S1024x32, .f32⟩
  | 67 => ⟨S1024x32, .f32⟩
  | 68 => ⟨S1024x32, .f32⟩
  | 69 => ⟨S1024x32, .f32⟩
  | 70 => ⟨S1x1024x1x32, .f32⟩
  | 71 => ⟨S1024x32, .f32⟩
  | 72 => ⟨S1x1024x1x32, .f32⟩
  | 73 => ⟨S2x1024x16x32, .f32⟩
  | 74 => ⟨S2x1024x16x32, .f32⟩
  | 75 => ⟨S2x1024x16x32, .f32⟩
  | 76 => ⟨S2x1024x16x32, .f32⟩
  | 77 => ⟨S2x1024x16x32, .f32⟩
  | 78 => ⟨S2x1024x16x32, .f32⟩
  | 79 => ⟨S2x1024x16x32, .f32⟩
  | 80 => ⟨S2x1024x16x32, .f32⟩
  | 81 => ⟨S2x1024x16x32, .f32⟩
  | 82 => ⟨S2x1024x16x32, .f32⟩
  | 83 => ⟨S2x1024x16x32, .f32⟩
  | 84 => ⟨S2x1024x16x32, .f32⟩
  | 85 => ⟨S2x1024x16x64, .f32⟩
  | 86 => ⟨S32, .f32⟩
  | 87 => ⟨S_, .f32⟩
  | 88 => ⟨S32, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S5120, .f32⟩
  | 97 => ⟨S5120x1, .f32⟩
  | 98 => ⟨S1x32, .f32⟩
  | 99 => ⟨S5120x32, .f32⟩
  | 100 => ⟨S5120x32, .f32⟩
  | 101 => ⟨S5120x32, .f32⟩
  | 102 => ⟨S5120x32, .f32⟩
  | 103 => ⟨S1x5120x1x32, .f32⟩
  | 104 => ⟨S5120x32, .f32⟩
  | 105 => ⟨S1x5120x1x32, .f32⟩
  | 106 => ⟨S2x5120x16x32, .f32⟩
  | 107 => ⟨S2x5120x16x32, .f32⟩
  | 108 => ⟨S2x5120x16x32, .f32⟩
  | 109 => ⟨S2x5120x16x32, .f32⟩
  | 110 => ⟨S2x5120x16x32, .f32⟩
  | 111 => ⟨S2x5120x16x32, .f32⟩
  | 112 => ⟨S2x5120x16x32, .f32⟩
  | 113 => ⟨S2x5120x16x32, .f32⟩
  | 114 => ⟨S2x5120x16x32, .f32⟩
  | 115 => ⟨S2x5120x16x32, .f32⟩
  | 116 => ⟨S2x5120x16x32, .f32⟩
  | 117 => ⟨S2x5120x16x32, .f32⟩
  | 118 => ⟨S2x5120x16x64, .f32⟩
  | 119 => ⟨S_, .f32⟩
  | 120 => ⟨S_, .f32⟩
  | 121 => ⟨S_, .f32⟩
  | 122 => ⟨S_, .f32⟩
  | 123 => ⟨S2x16x1024x5120, .f32⟩
  | 124 => ⟨S2x16x1024x5120, .f32⟩
  | 125 => ⟨S2x16x1024x5120, .f32⟩
  | 126 => ⟨S_, .f32⟩
  | 127 => ⟨S2x16x1024, .f32⟩
  | _ => ⟨S2x1024x1024, .f32⟩

abbrev hbmTy0_1 (i : Nat) : BufTy := match i % 128 with
  | 0 => ⟨S_, .f32⟩
  | 1 => ⟨S2x16x1024, .f32⟩
  | 2 => ⟨S2x16x1024, .f32⟩
  | 3 => ⟨S2x16x1024x1, .f32⟩
  | 4 => ⟨S2x16x1024x5120, .f32⟩
  | 5 => ⟨S2x16x1024x5120, .f32⟩
  | 6 => ⟨S2x16x1024x5120, .f32⟩
  | 7 => ⟨S_, .f32⟩
  | 8 => ⟨S2x16x1024, .f32⟩
  | 9 => ⟨S2x16x1024x1, .f32⟩
  | 10 => ⟨S2x16x1024x5120, .f32⟩
  | 11 => ⟨S2x16x1024x5120, .f32⟩
  | 12 => ⟨S2x16x64x1024, .f32⟩
  | 13 => ⟨S2x1024x16x64, .f32⟩
  | 14 => ⟨S2x1024x1024, .f32⟩
  | 15 => ⟨S2x1024x1024, .f32⟩
  | 16 => ⟨S1x2x1024x1024, .f32⟩
  | 17 => ⟨S2x1024x1024, .f32⟩
  | 18 => ⟨S1024, .f32⟩
  | 19 => ⟨S1024, .f32⟩
  | 20 => ⟨S_, .f32⟩
  | 21 => ⟨S1024, .f32⟩
  | 22 => ⟨S1024, .f32⟩
  | 23 => ⟨S_, .f32⟩
  | 24 => ⟨S1024, .f32⟩
  | 25 => ⟨S1024, .f32⟩
  | 26 => ⟨S1x1x1024, .f32⟩
  | 27 => ⟨S2x1024x1024, .f32⟩
  | 28 => ⟨S2x1024x1024, .f32⟩
  | 29 => ⟨S_, .f32⟩
  | 30 => ⟨S1024, .f32⟩
  | 31 => ⟨S1024, .f32⟩
  | 32 => ⟨S1x1x1024, .f32⟩
  | 33 => ⟨S2x1024x1024, .f32⟩
  | 34 => ⟨S2x1024x1024, .f32⟩
  | 35 => ⟨S2x1024x1024, .f32⟩
  | 36 => ⟨S1x1x1024, .f32⟩
  | 37 => ⟨S2x1024x1024, .f32⟩
  | 38 => ⟨S2x1024x1024, .f32⟩
  | 39 => ⟨S2x1024x1024, .f32⟩
  | 40 => ⟨S_, .f32⟩
  | 41 => ⟨S2x1024, .f32⟩
  | 42 => ⟨S2x1024x1, .f32⟩
  | 43 => ⟨S_, .f32⟩
  | 44 => ⟨S2x1024x1, .f32⟩
  | 45 => ⟨S2x1024x1, .f32⟩
  | 46 => ⟨S2x1024x1024, .f32⟩
  | 47 => ⟨S2x1024x1024, .f32⟩
  | 48 => ⟨S2x1024x1024, .f32⟩
  | 49 => ⟨S_, .f32⟩
  | 50 => ⟨S2x1024, .f32⟩
  | 51 => ⟨S2x1024x1, .f32⟩
  | 52 => ⟨S_, .f32⟩
  | 53 => ⟨S2x1024x1, .f32⟩
  | 54 => ⟨S2x1024x1, .f32⟩
  | 55 => ⟨S2x1024x1024, .f32⟩
  | 56 => ⟨S2x1024x1024, .f32⟩
  | 57 => ⟨S_, .f32⟩
  | 58 => ⟨S2x1024x1, .f32⟩
  | 59 => ⟨S2x1024x1, .f32⟩
  | 60 => ⟨S2x1024x1, .f32⟩
  | 61 => ⟨S2x1024x1024, .f32⟩
  | 62 => ⟨S2x1024x1024, .f32⟩
  | 63 => ⟨S1x1x1024, .f32⟩
  | 64 => ⟨S2x1024x1024, .f32⟩
  | 65 => ⟨S2x1024x1024, .f32⟩
  | 66 => ⟨S1x1x1024, .f32⟩
  | 67 => ⟨S2x1024x1024, .f32⟩
  | 68 => ⟨S2x1024x1024, .f32⟩
  | 69 => ⟨S3x2x1024x1024, .f32⟩
  | 70 => ⟨S1x2x1024x1024, .f32⟩
  | 71 => ⟨S4x2x1024x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_cst_9 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_10 : Ref sig .tc := ⟨.hbm, 119, rfl⟩
abbrev main_v98 : Ref sig .tc := ⟨.hbm, 120, rfl⟩
abbrev main_cst_11 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_12 : Ref sig .tc := ⟨.hbm, 126, rfl⟩
abbrev main_v103 : Ref sig .tc := ⟨.hbm, 127, rfl⟩
abbrev main_cst_13 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_14 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_15 : Ref sig .tc := ⟨.hbm, 148, rfl⟩
abbrev main_v122 : Ref sig .tc := ⟨.hbm, 149, rfl⟩
abbrev main_v123 : Ref sig .tc := ⟨.hbm, 150, rfl⟩
abbrev main_cst_16 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_17 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_18 : Ref sig .tc := ⟨.hbm, 168, rfl⟩
abbrev main_v139 : Ref sig .tc := ⟨.hbm, 169, rfl⟩
abbrev main_v140 : Ref sig .tc := ⟨.hbm, 170, rfl⟩
abbrev main_cst_19 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_20 : Ref sig .tc := ⟨.hbm, 177, rfl⟩
abbrev main_v146 : Ref sig .tc := ⟨.hbm, 178, rfl⟩
abbrev main_v147 : Ref sig .tc := ⟨.hbm, 179, rfl⟩
abbrev main_cst_21 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_22 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩

abbrev nD : Nat := 1
abbrev τ : Topo := Topo.v7x

variable {F : FTy → Type} [FloatOps F]
-- ==== Proof.RefRun.lean ====
/- The frame of the reference: it runs host operations only and declares no semaphore. -/
module

public import proofs.«01_k».proof.Proof.Gen.ReferenceIdeal.Run

@[expose] public section

noncomputable section

namespace Cert.RefV

open Cert.ReferenceIdeal Idealize.ShloMosaic Idealize.SL.Sem

variable {F : FTy → Type} [FloatOps F]

/-- The reference's run leaves its arguments as launched and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2.2, sem_eq_zero_of_no_sems (by decide) r.2⟩) (Value.run m ρ)

end Cert.RefV

end
-- ==== Proof.Spec.lean ====
/- What both programs compute, over the extended reals, one index at a time: layer normalization of a row, the rotary
   tables, the projections of a row, the attention of one head in the two forms the programs give it, the output and the
   shifted cache. -/
module

public import Idealize.ShloMosaic.PureOps.Ideal
public import Idealize.ShloMosaic.Lib.Pointwise.Index
public import Idealize.ShloMosaic.Lib.IdealHost

@[expose] public section

noncomputable section

namespace Cert.Spec

open Idealize.ShloMosaic
open scoped BigOperators

/-- The ten arguments. -/
structure Args where
  hid : (⟨3, ![2, 1024, 1024]⟩ : Shape).Idx → EReal
  cache : (⟨4, ![4, 2, 1024, 1024]⟩ : Shape).Idx → EReal
  lns : (⟨1, ![1024]⟩ : Shape).Idx → EReal
  lnb : (⟨1, ![1024]⟩ : Shape).Idx → EReal
  wq : (⟨2, ![1024, 1024]⟩ : Shape).Idx → EReal
  wk : (⟨2, ![1024, 1024]⟩ : Shape).Idx → EReal
  wv : (⟨2, ![1024, 1024]⟩ : Shape).Idx → EReal
  wo : (⟨2, ![1024, 1024]⟩ : Shape).Idx → EReal
  gate : (⟨1, ![1024]⟩ : Shape).Idx → EReal
  ls : (⟨1, ![1024]⟩ : Shape).Idx → EReal

/-! ## Layer normalization -/

/-- The mean of a row of 1024. -/
def mean (r : Fin 1024 → EReal) : EReal := Ideal.div (∑ k, r k) (Ideal.ofBits .f32 0x44800000#32)

/-- The variance of a row of 1024. -/
def var (r : Fin 1024 → EReal) : EReal :=
  Ideal.div (∑ k, (r k - mean r) * (r k - mean r)) (Ideal.ofBits .f32 0x44800000#32)

/-- A row normalized, scaled by `g` and shifted by `b`. -/
def lnRow (r g b : Fin 1024 → EReal) (k : Fin 1024) : EReal :=
  (r k - mean r) * Ideal.rsqrt (var r + Ideal.ofBits .f32 0x3727C5AC#32) * g k + b k

/-! ## The rotary tables and the rotation of one head -/

/-- An integer word as an extended real. -/
def ofInt (n : ℕ) : EReal := FloatOps.sitofp (F := Ideal) .f32 (BitVec.ofNat 32 n)

/-- The angle of position `p` at frequency `i`. -/
def ang (p : Fin 1024) (i : Fin 32) : EReal :=
  ofInt p.val * Ideal.div 1 (Ideal.pow (Ideal.ofBits .f32 0x461C4000#32) (Ideal.div (ofInt i.val) (Ideal.ofBits .f32 0x42000000#32)))

/-- The cosine table. -/
def cosT (p : Fin 1024) (i : Fin 32) : EReal := Ideal.cos (ang p i)

/-- The sine table. -/
def sinT (p : Fin 1024) (i : Fin 32) : EReal := Ideal.sin (ang p i)

/-- Column `d` of head `h`. -/
def col (h : Fin 16) (d : Fin 64) : Fin 1024 := ⟨64 * h.val + d.val, by omega⟩

/-- The column that is rotated with column `d`: 32 further, around the head's 64. -/
def swap (d : Fin 64) : Fin 64 := ⟨(d.val + 32) % 64, by omega⟩

/-- The frequency of column `d`. -/
def half (d : Fin 64) : Fin 32 := ⟨d.val % 32, by omega⟩

/-- Head `h` of a projected row at position `p`, rotated, at column `d`. -/
def rope (f : Fin 1024 → EReal) (p : Fin 1024) (h : Fin 16) (d : Fin 64) : EReal :=
  if d.val < 32 then f (col h d) * cosT p (half d) - f (col h (swap d)) * sinT p (half d)
  else f (col h (swap d)) * sinT p (half d) + f (col h d) * cosT p (half d)

/-- A row times a matrix. -/
def proj (w : (⟨2, ![1024, 1024]⟩ : Shape).Idx → EReal) (r : Fin 1024 → EReal) (c : Fin 1024) : EReal :=
  ∑ k : Fin 1024, r k * w (ix2 k c)

/-! ## The rows -/

variable (a : Args)

/-- The normalized hidden state of row `i`. -/
def normed (b : Fin 2) (i : Fin 1024) : Fin 1024 → EReal :=
  lnRow (fun k => a.hid (ix3 b i k)) (fun k => a.lns (ix1 k)) (fun k => a.lnb (ix1 k))

/-- Row `r` of cached layer `w`. -/
def cacheRow (b : Fin 2) (w : Fin 4) (r : Fin 1024) (k : Fin 1024) : EReal := a.cache (ix4 w b r k)

/-- Row `n` of the 5120 rows attended to: the four cached layers, then the normalized hidden states. -/
def kvRow (b : Fin 2) (n : Fin 5120) : Fin 1024 → EReal :=
  if h : n.val < 4096 then cacheRow a b ⟨n.val / 1024, by omega⟩ ⟨n.val % 1024, by omega⟩
  else normed a b ⟨n.val - 4096, by omega⟩

/-- The position of row `n` in its layer. -/
def pos (n : Fin 5120) : Fin 1024 := ⟨n.val % 1024, by omega⟩

/-- A cached row, as one of the 5120. -/
def old (n : Fin 4096) : Fin 5120 := ⟨n.val, by omega⟩

/-- A new row, as one of the 5120. -/
def new (r : Fin 1024) : Fin 5120 := ⟨4096 + r.val, by omega⟩

/-- The constant the kernel scales its queries by: `1 / (8 ln 2)`. -/
def qscale : EReal := (((Real.log 2)⁻¹ * 8⁻¹ : ℝ) : EReal)

/-- The queries. -/
def qq (b : Fin 2) (i : Fin 1024) (h : Fin 16) (d : Fin 64) : EReal := rope (proj a.wq (normed a b i)) i h d

/-- The kernel's queries, scaled before the rotation. -/
def qs (b : Fin 2) (i : Fin 1024) (h : Fin 16) (d : Fin 64) : EReal :=
  rope (fun c => proj a.wq (normed a b i) c * qscale) i h d

/-- The keys. -/
def kk (b : Fin 2) (n : Fin 5120) (h : Fin 16) (d : Fin 64) : EReal := rope (proj a.wk (kvRow a b n)) (pos n) h d

/-- The values. -/
def vv (b : Fin 2) (n : Fin 5120) (h : Fin 16) (d : Fin 64) : EReal := proj a.wv (kvRow a b n) (col h d)

/-! ## The attention of one head, in the two programs' forms -/

/-- The reference's score. -/
def sc (b : Fin 2) (h : Fin 16) (i : Fin 1024) (n : Fin 5120) : EReal :=
  (∑ d : Fin 64, qq a b i h d * kk a b n h d) * Ideal.div 1 (Ideal.sqrt (Ideal.ofBits .f32 0x42800000#32))

/-- The reference's attention, its scores shifted by `M`. -/
def ctxR (M : EReal) (b : Fin 2) (h : Fin 16) (i : Fin 1024) (d : Fin 64) : EReal :=
  ∑ n : Fin 5120, vv a b n h d * Ideal.div (Ideal.exp (sc a b h i n - M)) (∑ n' : Fin 5120, Ideal.exp (sc a b h i n' - M))

/-- The kernel's score. -/
def scK (b : Fin 2) (h : Fin 16) (i : Fin 1024) (n : Fin 5120) : EReal := ∑ d : Fin 64, qs a b i h d * kk a b n h d

/-- The kernel's weighted sum of the rows of `v`. -/
def wsum (b : Fin 2) (h : Fin 16) (i : Fin 1024) (v : Fin 5120 → EReal) : EReal :=
  ∑ n : Fin 4096, Ideal.exp2 (scK a b h i (old n)) * v (old n) + ∑ r : Fin 1024, Ideal.exp2 (scK a b h i (new r)) * v (new r)

/-- The kernel's attention. -/
def ctxK (b : Fin 2) (h : Fin 16) (i : Fin 1024) (d : Fin 64) : EReal :=
  wsum a b h i (fun n => vv a b n h d) * Ideal.div 1 (wsum a b h i fun _ => 1)

/-! ## The results -/

/-- The head of column `j`. -/
def headOf (j : Fin 1024) : Fin 16 := ⟨j.val / 64, by omega⟩

/-- The column of `j` in its head. -/
def within (j : Fin 1024) : Fin 64 := ⟨j.val % 64, by omega⟩

/-- The heads' attention, projected back. -/
def attn (ctx : Fin 16 → Fin 1024 → Fin 64 → EReal) (i : Fin 1024) (c : Fin 1024) : EReal :=
  ∑ j : Fin 1024, ctx (headOf j) i (within j) * a.wo (ix2 j c)

/-- The gate. -/
def gateOf (c : Fin 1024) : EReal := Ideal.logistic (a.gate (ix1 c))

/-- The output, from the heads' attention. -/
def out (ctx : Fin 2 → Fin 16 → Fin 1024 → Fin 64 → EReal) (b : Fin 2) (i c : Fin 1024) : EReal :=
  a.hid (ix3 b i c) + a.ls (ix1 c) * (gateOf a c * attn a (ctx b) i c + (1 - gateOf a c) * a.cache (ix4 3 b i c))

/-- The new cache: the three newer layers, then the normalized output. -/
def newCache (ctx : Fin 2 → Fin 16 → Fin 1024 → Fin 64 → EReal) (w : Fin 4) (b : Fin 2) (i c : Fin 1024) : EReal :=
  if h : w.val < 3 then a.cache (ix4 ⟨w.val + 1, by omega⟩ b i c)
  else lnRow (out a ctx b i) (fun k => a.lns (ix1 k)) (fun k => a.lnb (ix1 k)) c

end Cert.Spec

end
-- ==== Proof.Softmax.lean ====
/- The two forms of the attention agree when the cache, the normalization's scales and shifts and the weights of the
   queries and the keys are finite: the scores are then real, whatever the hidden states, the shift by `M` cancels in
   the quotient, and the scale of the queries moves through the rotation and the base-2 exponential. The values may be
   infinite. -/
module

public import proofs.«01_k».proof.Proof.Spec

@[expose] public section

noncomputable section

namespace Cert.Spec

open Idealize.ShloMosaic
open scoped BigOperators

/-! ## Real extended reals -/

/-- An extended real that is a real. -/
def IsR (x : EReal) : Prop := ∃ r : ℝ, x = (r : EReal)

namespace IsR

/-- A real is real. -/
theorem coe (r : ℝ) : IsR (r : EReal) := ⟨r, rfl⟩

/-- So is a sum of reals, -/
theorem add {x y : EReal} (hx : IsR x) (hy : IsR y) : IsR (x + y) := by
  obtain ⟨r, rfl⟩ := hx; obtain ⟨s, rfl⟩ := hy; exact ⟨r + s, (EReal.coe_add r s).symm⟩

/-- a difference, -/
theorem sub {x y : EReal} (hx : IsR x) (hy : IsR y) : IsR (x - y) := by
  obtain ⟨r, rfl⟩ := hx; obtain ⟨s, rfl⟩ := hy; exact ⟨r - s, (EReal.coe_sub r s).symm⟩

/-- a product, -/
theorem mul {x y : EReal} (hx : IsR x) (hy : IsR y) : IsR (x * y) := by
  obtain ⟨r, rfl⟩ := hx; obtain ⟨s, rfl⟩ := hy; exact ⟨r * s, (EReal.coe_mul r s).symm⟩

/-- A finite sum of reals is their real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert x s hx ih => rw [Finset.sum_insert hx, Finset.sum_insert hx, ih, EReal.coe_add]

/-- a finite sum, -/
theorem sum {ι : Type} (s : Finset ι) {f : ι → EReal} (hf : ∀ k, IsR (f k)) : IsR (∑ k ∈ s, f k) := by
  choose g hg using hf
  refine ⟨∑ k ∈ s, g k, ?_⟩
  rw [← coe_sum]
  exact Finset.sum_congr rfl fun k _ => hg k

/-- and a quotient by a real other than zero. -/
theorem div {x : EReal} (hx : IsR x) {y : ℝ} (hy : y ≠ 0) : IsR (Ideal.div x (y : EReal)) := by
  rw [Ideal.div_coe hy]; exact hx.mul (coe _)

/-- Below the infinities in absolute value is real. -/
theorem of_lt_top {x : EReal} (h : max x (-x) < ⊤) : IsR x := by
  induction x with
  | bot => simp at h
  | coe r => exact coe r
  | top => simp at h

end IsR

/-! ## The constants -/

/-- The word of 1024. -/
theorem ofBits_1024 : Ideal.ofBits .f32 0x44800000#32 = ((1024 : ℝ) : EReal) := by
  simp [Ideal.ofBits, Ideal.ieee, -EReal.coe_mul]; norm_num

/-- The word of 64. -/
theorem ofBits_64 : Ideal.ofBits .f32 0x42800000#32 = ((64 : ℝ) : EReal) := by
  simp [Ideal.ofBits, Ideal.ieee, -EReal.coe_mul]; norm_num

/-- The word of 32. -/
theorem ofBits_32 : Ideal.ofBits .f32 0x42000000#32 = ((32 : ℝ) : EReal) := by
  simp [Ideal.ofBits, Ideal.ieee, -EReal.coe_mul]; norm_num

/-- The word of 10000. -/
theorem ofBits_10000 : Ideal.ofBits .f32 0x461C4000#32 = ((10000 : ℝ) : EReal) := by
  simp [Ideal.ofBits, Ideal.ieee, -EReal.coe_mul]; norm_num

/-- The word of minus infinity. -/
theorem ofBits_ninf : Ideal.ofBits .f32 0xFF800000#32 = ⊥ := by
  simp [Ideal.ofBits, Ideal.ieee]

/-- The word of infinity. -/
theorem ofBits_inf : Ideal.ofBits .f32 0x7F800000#32 = ⊤ := by
  simp [Ideal.ofBits, Ideal.ieee]

/-- The term added to a variance is a positive real. -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- One over the root of 64 is one eighth. -/
theorem inv_sqrt64 : Ideal.div 1 (Ideal.sqrt (Ideal.ofBits .f32 0x42800000#32)) = (((8 : ℝ)⁻¹ : ℝ) : EReal) := by
  rw [ofBits_64, Ideal.sqrt_coe, if_neg (by norm_num), show (64 : ℝ) = 8 ^ 2 by norm_num,
    Real.sqrt_sq (by norm_num), Ideal.div_coe (by norm_num), one_mul, one_div]

/-! ## What is real when the inputs are -/

/-- An integer is real. -/
theorem ofInt_isR (n : ℕ) : IsR (ofInt n) := ⟨_, rfl⟩

/-- An angle is real. -/
theorem ang_isR (p : Fin 1024) (i : Fin 32) : IsR (ang p i) := by
  unfold ang
  obtain ⟨x, hx⟩ := (ofInt_isR i.val).div (y := 32) (by norm_num)
  rw [ofBits_32, ofBits_10000, hx, Ideal.pow_coe_coe]
  exact (ofInt_isR _).mul (IsR.div (IsR.coe 1) (Real.rpow_pos_of_pos (by norm_num) x).ne')

/-- Its cosine is real. -/
theorem cosT_isR (p : Fin 1024) (i : Fin 32) : IsR (cosT p i) := by
  obtain ⟨x, hx⟩ := ang_isR p i
  unfold cosT; rw [hx, Ideal.cos_coe]; exact IsR.coe _

/-- Its sine is real. -/
theorem sinT_isR (p : Fin 1024) (i : Fin 32) : IsR (sinT p i) := by
  obtain ⟨x, hx⟩ := ang_isR p i
  unfold sinT; rw [hx, Ideal.sin_coe]; exact IsR.coe _

/-- The mean of a row of reals is real. -/
theorem mean_isR {r : Fin 1024 → EReal} (hr : ∀ k, IsR (r k)) : IsR (mean r) := by
  unfold mean; rw [ofBits_1024]; exact (IsR.sum _ hr).div (by norm_num)

/-- The variance of a row of reals is real and not negative. -/
theorem var_real {r : Fin 1024 → EReal} (hr : ∀ k, IsR (r k)) : ∃ v : ℝ, 0 ≤ v ∧ var r = (v : EReal) := by
  have hd : ∀ k, IsR (r k - mean r) := fun k => (hr k).sub (mean_isR hr)
  choose g hg using hd
  refine ⟨(∑ k, g k * g k) * (1 / 1024), mul_nonneg (Finset.sum_nonneg fun k _ => mul_self_nonneg _) (by norm_num), ?_⟩
  unfold var
  rw [ofBits_1024, Ideal.div_coe (by norm_num), EReal.coe_mul, ← IsR.coe_sum]
  exact congrArg (· * _) (Finset.sum_congr rfl fun k _ => by rw [hg k, EReal.coe_mul])

/-- The square of an extended real is not negative, -/
theorem sq_nonneg (x : EReal) : 0 ≤ x * x := by
  induction x with
  | bot => simp
  | coe r => exact_mod_cast mul_self_nonneg r
  | top => simp

/-- and that of an infinite entry's deviation is infinite. -/
theorem sq_dev {x : EReal} (hx : ¬ IsR x) (y : EReal) : (x - y) * (x - y) = ⊤ := by
  induction x with
  | bot => rw [EReal.bot_sub]; rfl
  | coe r => exact absurd (IsR.coe r) hx
  | top =>
    induction y with
    | bot => rw [show (⊤ : EReal) - ⊥ = ⊤ from rfl]; rfl
    | coe s => rw [EReal.top_sub_coe]; rfl
    | top => rw [show (⊤ : EReal) - ⊤ = ⊥ from rfl]; rfl

/-- The variance of a row with an infinite entry is infinite. -/
theorem var_top {r : Fin 1024 → EReal} {k : Fin 1024} (hk : ¬ IsR (r k)) : var r = ⊤ := by
  have h : ∑ k, (r k - mean r) * (r k - mean r) = ⊤ :=
    top_le_iff.mp ((sq_dev hk (mean r)).symm.le.trans
      (Finset.single_le_sum (f := fun k => (r k - mean r) * (r k - mean r)) (fun _ _ => sq_nonneg _) (Finset.mem_univ k)))
  unfold var
  rw [h, ofBits_1024, Ideal.div_coe (by norm_num)]
  exact EReal.top_mul_coe_of_pos (by norm_num)

/-- A normalized row is real when its scales and shifts are: if the row itself is not, its variance is infinite and the
    shifts are left. -/
theorem lnRow_isR {r g b : Fin 1024 → EReal} (hg : ∀ k, IsR (g k)) (hb : ∀ k, IsR (b k)) (k : Fin 1024) : IsR (lnRow r g b k) := by
  obtain ⟨e, he0, he⟩ := eps_pos
  by_cases hr : ∀ k, IsR (r k)
  · obtain ⟨v, hv0, hv⟩ := var_real hr
    unfold lnRow
    rw [hv, he, ← EReal.coe_add, Ideal.rsqrt_coe, if_neg (by linarith), if_neg (by linarith)]
    exact ((((hr k).sub (mean_isR hr)).mul (IsR.coe _)).mul (hg k)).add (hb k)
  · obtain ⟨k', hk'⟩ := not_forall.mp hr
    unfold lnRow
    rw [var_top hk', he, EReal.top_add_coe, show Ideal.rsqrt ⊤ = 0 from rfl, mul_zero, zero_mul, zero_add]
    exact hb k

/-- A row of reals times a matrix of reals is real. -/
theorem proj_isR {w : (⟨2, ![1024, 1024]⟩ : Shape).Idx → EReal} {r : Fin 1024 → EReal} (hw : ∀ j, IsR (w j))
    (hr : ∀ k, IsR (r k)) (c : Fin 1024) : IsR (proj w r c) :=
  IsR.sum _ fun k => (hr k).mul (hw _)

/-- A rotated row of reals is real. -/
theorem rope_isR {f : Fin 1024 → EReal} (hf : ∀ c, IsR (f c)) (p : Fin 1024) (h : Fin 16) (d : Fin 64) :
    IsR (rope f p h d) := by
  unfold rope
  split
  · exact ((hf _).mul (cosT_isR _ _)).sub ((hf _).mul (sinT_isR _ _))
  · exact ((hf _).mul (sinT_isR _ _)).add ((hf _).mul (cosT_isR _ _))

/-- The arguments that must be finite for the scores to be real. -/
structure Args.Finite (a : Args) : Prop where
  cache : ∀ j, IsR (a.cache j)
  lns : ∀ j, IsR (a.lns j)
  lnb : ∀ j, IsR (a.lnb j)
  wq : ∀ j, IsR (a.wq j)
  wk : ∀ j, IsR (a.wk j)

variable {a : Args}

/-- The normalized hidden states are real. -/
theorem normed_isR (ha : a.Finite) (b : Fin 2) (i k : Fin 1024) : IsR (normed a b i k) :=
  lnRow_isR (fun _ => ha.lns _) (fun _ => ha.lnb _) k

/-- The rows attended to are real. -/
theorem kvRow_isR (ha : a.Finite) (b : Fin 2) (n : Fin 5120) (k : Fin 1024) : IsR (kvRow a b n k) := by
  unfold kvRow
  split
  · exact ha.cache _
  · exact normed_isR ha _ _ _

/-- The keys are real. -/
theorem kk_isR (ha : a.Finite) (b : Fin 2) (n : Fin 5120) (h : Fin 16) (d : Fin 64) : IsR (kk a b n h d) :=
  rope_isR (proj_isR ha.wk (kvRow_isR ha b n)) _ _ _

/-- The queries are real. -/
theorem qq_isR (ha : a.Finite) (b : Fin 2) (i : Fin 1024) (h : Fin 16) (d : Fin 64) : IsR (qq a b i h d) :=
  rope_isR (proj_isR ha.wq (normed_isR ha b i)) _ _ _

/-- The scores are real. -/
theorem sc_isR (ha : a.Finite) (b : Fin 2) (h : Fin 16) (i : Fin 1024) (n : Fin 5120) : IsR (sc a b h i n) := by
  unfold sc
  rw [inv_sqrt64]
  exact (IsR.sum _ fun d => (qq_isR ha _ _ _ _).mul (kk_isR ha _ _ _ _)).mul (IsR.coe _)

/-! ## The scale moves through the rotation -/

/-- Scaling a row before its rotation scales the rotated row. -/
theorem rope_mul {f : Fin 1024 → EReal} (hf : ∀ c, IsR (f c)) (s : ℝ) (p : Fin 1024) (h : Fin 16) (d : Fin 64) :
    rope (fun c => f c * (s : EReal)) p h d = rope f p h d * (s : EReal) := by
  choose g hg using hf
  obtain ⟨c, hc⟩ := cosT_isR p (half d)
  obtain ⟨t, ht⟩ := sinT_isR p (half d)
  unfold rope
  simp only [hg, hc, ht]
  split
  · simp only [← EReal.coe_mul, ← EReal.coe_sub]; congr 1; ring
  · simp only [← EReal.coe_mul, ← EReal.coe_add]; congr 1; ring

/-- The kernel's base-2 exponential of its score is the exponential of the reference's. -/
theorem exp2_scK (ha : a.Finite) (b : Fin 2) (h : Fin 16) (i : Fin 1024) (n : Fin 5120) :
    Ideal.exp2 (scK a b h i n) = Ideal.exp (sc a b h i n) := by
  have hq : ∀ d, qs a b i h d = qq a b i h d * qscale := fun d =>
    rope_mul (proj_isR ha.wq (normed_isR ha b i)) _ i h d
  choose q hq' using fun d => qq_isR ha b i h d
  choose k hk using fun d => kk_isR ha b n h d
  unfold scK sc
  simp only [hq, hq', hk, inv_sqrt64, qscale, ← EReal.coe_mul, IsR.coe_sum]
  rw [Ideal.exp2_coe, Ideal.exp_coe]
  congr 1
  refine (Real.rpow_def_of_pos (by norm_num) _).trans ?_
  congr 1
  rw [Finset.mul_sum, Finset.sum_mul]
  refine Finset.sum_congr rfl fun d _ => ?_
  have hl : Real.log 2 ≠ 0 := (Real.log_pos (by norm_num)).ne'
  field_simp

/-! ## The quotient -/

/-- A sum over the 5120 rows is the sum over the cached ones and the sum over the new ones. -/
theorem sum_rows (f : Fin 5120 → EReal) : ∑ n, f n = ∑ n, f (old n) + ∑ r, f (new r) :=
  Fin.sum_univ_add (a := 4096) (b := 1024) f

/-- A nonnegative real factor distributes over a sum of extended reals. -/
theorem sum_mul_coe {ι : Type} (s : Finset ι) (f : ι → EReal) {r : ℝ} (hr : 0 ≤ r) :
    (∑ k ∈ s, f k) * (r : EReal) = ∑ k ∈ s, f k * (r : EReal) := by
  classical
  induction s using Finset.induction_on with
  | empty => simp
  | insert x s hx ih =>
    rw [Finset.sum_insert hx, Finset.sum_insert hx,
      EReal.right_distrib_of_nonneg_of_ne_top (EReal.coe_nonneg.mpr hr) (EReal.coe_ne_top r), ih]

/-- The kernel's attention is the reference's, whatever real the reference shifts its scores by. -/
theorem ctxK_eq (ha : a.Finite) {M : EReal} (hM : IsR M) (b : Fin 2) (h : Fin 16) (i : Fin 1024) (d : Fin 64) :
    ctxK a b h i d = ctxR a M b h i d := by
  obtain ⟨M, rfl⟩ := hM
  choose s hs using fun n => sc_isR ha b h i n
  have hw : ∀ v : Fin 5120 → EReal, wsum a b h i v = ∑ n, ((Real.exp (s n) : ℝ) : EReal) * v n := fun v => by
    rw [sum_rows]; unfold wsum
    simp only [exp2_scK ha, hs, Ideal.exp_coe]
  have hD : 0 < ∑ n, Real.exp (s n) := Finset.sum_pos (fun n _ => Real.exp_pos _) ⟨0, Finset.mem_univ _⟩
  have hE : 0 < ∑ n, Real.exp (s n - M) := Finset.sum_pos (fun n _ => Real.exp_pos _) ⟨0, Finset.mem_univ _⟩
  unfold ctxK ctxR
  rw [hw, hw]
  simp only [hs, mul_one, ← EReal.coe_sub, Ideal.exp_coe, IsR.coe_sum]
  rw [Ideal.div_coe hD.ne', one_mul, sum_mul_coe _ _ (by positivity)]
  refine Finset.sum_congr rfl fun n _ => ?_
  rw [Ideal.div_coe hE.ne', ← EReal.coe_mul, mul_comm ((Real.exp (s n) : ℝ) : EReal), mul_assoc, ← EReal.coe_mul]
  congr 2
  simp only [Real.exp_sub, ← Finset.sum_div]
  have := Real.exp_pos M
  field_simp

/-- The fold of `max` over a nonempty family of reals, from below all of them, is real. -/
theorem fold_max_isR {ι : Type} [Fintype ι] [Nonempty ι] {f : ι → EReal} (hf : ∀ k, IsR (f k)) :
    IsR (Finset.univ.fold max ⊥ f) := by
  classical
  have h : ∀ s : Finset ι, (s = ∅ ∧ s.fold max ⊥ f = ⊥) ∨ IsR (s.fold max ⊥ f) := fun s => by
    induction s using Finset.induction_on with
    | empty => exact Or.inl ⟨rfl, rfl⟩
    | insert x s hx ih =>
      right
      rw [Finset.fold_insert hx]
      rcases ih with ⟨_, e⟩ | e
      · rw [e, max_bot_right]; exact hf x
      · rcases max_choice (f x) (s.fold max ⊥ f) with e' | e' <;> rw [e']
        · exact hf x
        · exact e
  rcases h Finset.univ with ⟨e, _⟩ | e
  · exact absurd e Finset.univ_nonempty.ne_empty
  · exact e

end Cert.Spec

end
-- ==== Proof.Host.lean ====
/- What the kernel's host operations leave in the buffers the pipelined regions read, one index at a time. -/
module

public import proofs.«01_k».proof.Proof.Gen.KernelIdeal.Frame
public import proofs.«01_k».proof.Proof.Softmax
public import Idealize.ShloMosaic.Lib.Pointwise
public import Idealize.ShloMosaic.Lib.Claim

@[expose] public section

noncomputable section

namespace Cert.KV

open Cert.KernelIdeal Cert.KernelIdeal.Gen Cert.Spec
open Idealize.ShloMosaic Idealize.ShloMosaic.StableHlo Idealize.ShloMosaic.TcCoe
open scoped BigOperators

variable (m : (ℓ : Loc nD τ sig) → Buf (Elt Ideal) ℓ) (ρ : Dev nD → PrngReg) (c : Dev nD)

/-- The kernel's table of angles, as its host operations build it. -/
def angles : S1024x32.Idx → EReal :=
  mulf (F := Ideal) (φ := .f32)
    (broadcastInDim S1024x32 ![0, 1] bcast_S1024x1_S1024x32_0_1
      (broadcastInDim S1024x1 ![0] bcast_S1024_S1024x1_0 (sitofp (F := Ideal) .f32 (iotaInDim S1024 32 0))))
    (broadcastInDim S1024x32 ![0, 1] bcast_S1x32_S1024x32_0_1
      (broadcastInDim S1x32 ![1] bcast_S32_S1x32_1
        (Host.divf (F := Ideal) (φ := .f32) (broadcastInDim S32 ![] bcast_S_S32 (constant (F := Ideal) S_ .f32 0x3F800000#32))
          (Host.powf (F := Ideal) (φ := .f32) (broadcastInDim S32 ![] bcast_S_S32 (constant (F := Ideal) S_ .f32 0x461C4000#32))
            (Host.divf (F := Ideal) (φ := .f32) (sitofp (F := Ideal) .f32 (iotaInDim S32 32 0))
              (broadcastInDim S32 ![] bcast_S_S32 (constant (F := Ideal) S_ .f32 0x42000000#32)))))))

/-- The table of angles at a position and a frequency. -/
theorem angles_at (p : Fin 1024) (j : Fin 32) : angles (ix2 p j) = ang p j := by
  unfold angles
  pointwise
  rfl

set_option maxHeartbeats 1600000 in
/-- The angles' buffer. -/
theorem W1_v20 : W1 m ρ c (Proc.devRef .tc main_v20) = angles := by
  show StableHlo.after hostOps0 (W0 m ρ c) _ = _
  simp only [StableHlo.after_cons, StableHlo.after_nil]
  after_results_simp
  rfl

set_option maxHeartbeats 1600000 in
/-- The cosines' buffer: each half of its columns holds the table. -/
theorem W1_v23 : W1 m ρ c (Proc.devRef .tc main_v23)
    = concatenate S1024x64 1 [⟨S1024x32, Host.cos (F := Ideal) (φ := .f32) angles⟩, ⟨S1024x32, Host.cos (F := Ideal) (φ := .f32) angles⟩]
        concatenates_S1024x32_S1024x32_S1024x64_d1 := by
  show StableHlo.after hostOps0 (W0 m ρ c) _ = _
  simp only [StableHlo.after_cons, StableHlo.after_nil]
  after_results_simp
  after_results_loop
  rfl

set_option maxHeartbeats 1600000 in
/-- The signed sines' buffer: its first half holds the negated table, its second half the table. -/
theorem W1_v25 : W1 m ρ c (Proc.devRef .tc main_v25)
    = concatenate S1024x64 1 [⟨S1024x32, Host.negf (F := Ideal) (φ := .f32) (Host.sin (F := Ideal) (φ := .f32) angles)⟩, ⟨S1024x32, Host.sin (F := Ideal) (φ := .f32) angles⟩]
        concatenates_S1024x32_S1024x32_S1024x64_d1 := by
  show StableHlo.after hostOps0 (W0 m ρ c) _ = _
  simp only [StableHlo.after_cons, StableHlo.after_nil]
  after_results_simp
  after_results_loop
  rfl

/-- The arguments of the launch on one device. -/
def argsOf : Args where
  hid := m ((c : Thread nD τ).loc main_arg0)
  cache := m ((c : Thread nD τ).loc main_arg1)
  lns := m ((c : Thread nD τ).loc main_arg2)
  lnb := m ((c : Thread nD τ).loc main_arg3)
  wq := m ((c : Thread nD τ).loc main_arg4)
  wk := m ((c : Thread nD τ).loc main_arg5)
  wv := m ((c : Thread nD τ).loc main_arg6)
  wo := m ((c : Thread nD τ).loc main_arg7)
  gate := m ((c : Thread nD τ).loc main_arg8)
  ls := m ((c : Thread nD τ).loc main_arg9)

/-- Two halves of 32 columns side by side. -/
theorem concat_cols (x y : S1024x32.Idx → EReal) (h) (p : Fin 1024) (d : Fin 64) :
    concatenate S1024x64 1 [⟨S1024x32, x⟩, ⟨S1024x32, y⟩] h (ix2 p d)
      = if d.val < 32 then x (ix2 p (half d)) else y (ix2 p (half d)) := by
  split
  · next hd =>
    refine concatenate_pair_apply_left 1 x y h _ rfl _ fun b => ?_
    fin_cases b
    · rfl
    · exact Nat.mod_eq_of_lt hd
  · next hd =>
    refine concatenate_pair_apply_right 1 x y h _ rfl rfl _ (fun b hb => ?_) ?_
    · fin_cases b
      · rfl
      · exact absurd rfl hb
    · show d.val % 32 + 32 = d.val
      omega

/-- The signed sine that multiplies the exchanged column. -/
def sgnSin (p : Fin 1024) (d : Fin 64) : EReal := if d.val < 32 then -sinT p (half d) else sinT p (half d)

/-- The cosines' buffer. -/
theorem cos_at (p : Fin 1024) (d : Fin 64) : V1 m ρ c main_v23 (ix2 p d) = cosT p (half d) := by
  refine (congrFun (W1_v23 m ρ c) (ix2 p d)).trans ((concat_cols _ _ _ p d).trans ?_)
  rw [ite_self]
  exact congrArg Ideal.cos (angles_at p (half d))

/-- The signed sines' buffer. -/
theorem sin_at (p : Fin 1024) (d : Fin 64) : V1 m ρ c main_v25 (ix2 p d) = sgnSin p d := by
  refine (congrFun (W1_v25 m ρ c) (ix2 p d)).trans ((concat_cols _ _ _ p d).trans ?_)
  unfold sgnSin
  split
  · exact congrArg (fun x => -Ideal.sin x) (angles_at p (half d))
  · exact congrArg Ideal.sin (angles_at p (half d))

/-! ## The weights -/

/-- The three projections' weights side by side. -/
def wall : S1024x3072.Idx → EReal :=
  concatenate S1024x3072 1 [⟨S1024x1024, (argsOf m c).wq⟩, ⟨S1024x1024, (argsOf m c).wk⟩, ⟨S1024x1024, (argsOf m c).wv⟩]
    concatenates_S1024x1024_S1024x1024_S1024x1024_S1024x3072_d1

/-- The queries' weights come first. -/
theorem wall_q (k j : Fin 1024) : wall m c (ix2 k ⟨j.val, by omega⟩) = (argsOf m c).wq (ix2 k j) :=
  concatenate_apply_piece (t := S1024x3072) 1 _ _ _ 0 (by show 0 < 3; omega) S1024x1024 _ rfl rfl 0 rfl (ix2 k j)
    (fun b hb => by fin_cases b; · rfl
                    · exact absurd rfl hb) (by show 0 + j.val = j.val; omega)

/-- Then the keys'. -/
theorem wall_k (k j : Fin 1024) : wall m c (ix2 k ⟨1024 + j.val, by omega⟩) = (argsOf m c).wk (ix2 k j) :=
  concatenate_apply_piece (t := S1024x3072) 1 _ _ _ 1 (by show 1 < 3; omega) S1024x1024 _ rfl rfl 1024 rfl (ix2 k j)
    (fun b hb => by fin_cases b; · rfl
                    · exact absurd rfl hb) rfl

/-- Then the values'. -/
theorem wall_v (k j : Fin 1024) : wall m c (ix2 k ⟨2048 + j.val, by omega⟩) = (argsOf m c).wv (ix2 k j) :=
  concatenate_apply_piece (t := S1024x3072) 1 _ _ _ 2 (by show 2 < 3; omega) S1024x1024 _ rfl rfl 2048 rfl (ix2 k j)
    (fun b hb => by fin_cases b; · rfl
                    · exact absurd rfl hb) rfl

set_option maxHeartbeats 1600000 in
/-- The buffer of all three. -/
theorem W1_v1 : V1 m ρ c main_v1 = wall m c := by
  show StableHlo.after hostOps0 (W0 m ρ c) _ = _
  simp only [StableHlo.after_cons, StableHlo.after_nil]
  after_results_simp
  rfl

set_option maxHeartbeats 1600000 in
/-- The buffer of the keys' and values'. -/
theorem W1_v2 : V1 m ρ c main_v2 = extractStridedSlice S1024x2048 ![0, 1024] (wall m c) slices_S1024x3072_S1024x2048_0_1024 := by
  show StableHlo.after hostOps0 (W0 m ρ c) _ = _
  simp only [StableHlo.after_cons, StableHlo.after_nil]
  after_results_simp
  rfl

/-- The keys' weights in the buffer of two. -/
theorem wkv_k (k j : Fin 1024) : V1 m ρ c main_v2 (ix2 k ⟨j.val, by omega⟩) = (argsOf m c).wk (ix2 k j) := by
  rw [W1_v2, ← wall_k]
  exact extractStridedSlice_apply _ _ _ _ _ (fun a => by
    fin_cases a
    · exact (Nat.zero_add _).symm
    · rfl)

/-- The values' weights in the buffer of two. -/
theorem wkv_v (k j : Fin 1024) : V1 m ρ c main_v2 (ix2 k ⟨1024 + j.val, by omega⟩) = (argsOf m c).wv (ix2 k j) := by
  rw [W1_v2, ← wall_v]
  exact extractStridedSlice_apply _ _ _ _ _ (fun a => by
    fin_cases a
    · exact (Nat.zero_add _).symm
    · show 2048 + j.val = 1024 + (1024 + j.val)
      omega)

set_option maxHeartbeats 1600000 in
/-- The output projection's weights. -/
theorem W1_v3 : V1 m ρ c main_v3 = (argsOf m c).wo := by
  show StableHlo.after hostOps0 (W0 m ρ c) _ = _
  simp only [StableHlo.after_cons, StableHlo.after_nil]
  after_results_simp
  rfl

/-- A vector as a matrix of one row. -/
theorem row_at (x : S1024.Idx → EReal) (k : Fin 1024) : shapeCast S1x1024 x shapeCasts_S1024_S1x1024 (ix2 0 k) = x (ix1 k) := by
  pointwise

set_option maxHeartbeats 1600000 in
/-- The scales of the layer normalization. -/
theorem lns_at (k : Fin 1024) : V1 m ρ c main_v4 (ix2 0 k) = (argsOf m c).lns (ix1 k) := by
  refine (congrFun (?_ : _ = shapeCast S1x1024 (argsOf m c).lns shapeCasts_S1024_S1x1024) (ix2 0 k)).trans (row_at _ k)
  show StableHlo.after hostOps0 (W0 m ρ c) _ = _
  simp only [StableHlo.after_cons, StableHlo.after_nil]
  after_results_simp
  rfl

set_option maxHeartbeats 1600000 in
/-- The shifts of the layer normalization. -/
theorem lnb_at (k : Fin 1024) : V1 m ρ c main_v5 (ix2 0 k) = (argsOf m c).lnb (ix1 k) := by
  refine (congrFun (?_ : _ = shapeCast S1x1024 (argsOf m c).lnb shapeCasts_S1024_S1x1024) (ix2 0 k)).trans (row_at _ k)
  show StableHlo.after hostOps0 (W0 m ρ c) _ = _
  simp only [StableHlo.after_cons, StableHlo.after_nil]
  after_results_simp
  rfl

set_option maxHeartbeats 1600000 in
/-- The gate's parameters. -/
theorem gate_at (k : Fin 1024) : V1 m ρ c main_v6 (ix2 0 k) = (argsOf m c).gate (ix1 k) := by
  refine (congrFun (?_ : _ = shapeCast S1x1024 (argsOf m c).gate shapeCasts_S1024_S1x1024) (ix2 0 k)).trans (row_at _ k)
  show StableHlo.after hostOps0 (W0 m ρ c) _ = _
  simp only [StableHlo.after_cons, StableHlo.after_nil]
  after_results_simp
  rfl

set_option maxHeartbeats 1600000 in
/-- The scales of the update. -/
theorem ls_at (k : Fin 1024) : V1 m ρ c main_v7 (ix2 0 k) = (argsOf m c).ls (ix1 k) := by
  refine (congrFun (?_ : _ = shapeCast S1x1024 (argsOf m c).ls shapeCasts_S1024_S1x1024) (ix2 0 k)).trans (row_at _ k)
  show StableHlo.after hostOps0 (W0 m ρ c) _ = _
  simp only [StableHlo.after_cons, StableHlo.after_nil]
  after_results_simp
  rfl

/-! ## One head of a row, rotated the kernel's way -/

/-- The column times its cosine, plus the exchanged column times the signed sine: the rotation. -/
theorem rope_kernel (f : Fin 1024 → EReal) (p : Fin 1024) (h : Fin 16) (d : Fin 64) :
    f (col h d) * cosT p (half d) + f (col h (swap d)) * sgnSin p d = rope f p h d := by
  unfold rope sgnSin
  split
  · rw [mul_neg, sub_eq_add_neg]
  · rw [add_comm]

end Cert.KV

end
-- ==== Proof.Pieces.lean ====
/- The blocks the kernel stores head by head: a rotated head, and a head of values beside the column of ones that sums the
   weights. Each is read at an index, for any head and any place of the head's columns in the projected block. -/
module

public import proofs.«01_k».proof.Proof.Host
public import Idealize.ShloMosaic.Lib.Pipeline.ValueKit
public import Idealize.ShloMosaic.Lib.MatmulPlain

@[expose] public section

noncomputable section

namespace Cert.KV

open Cert.KernelIdeal Cert.KernelIdeal.Gen Cert.Spec
open Idealize.ShloMosaic
open scoped BigOperators

variable {M : ℕ}

/-- Column `j` of a projection that starts at column `o` of a block. -/
def off (o : ℕ) (ho : o + 1024 ≤ M) (j : Fin 1024) : Fin M := ⟨o + j.val, by omega⟩

/-- A rotated head, from its 64 columns of the projected block. -/
def ropePiece (o : ℕ) (hs : Shape.Slices ⟨2, ![512, M]⟩ ![0, o] S512x64) (cs sn : FVec Ideal S512x64 .f32)
    (x : FVec Ideal ⟨2, ![512, M]⟩ .f32) : FVec Ideal S1x1x512x64 .bf16 :=
  have s : FVec Ideal S512x64 .f32 := extractStridedSlice S512x64 ![0, o] x hs
  shapeCast S1x1x512x64
    (truncf .bf16 (addf (mulf s cs)
      (mulf (concatenate S512x64 1 [⟨S512x32, extractStridedSlice S512x32 ![0, 32] s slices_S512x64_o0_32_S512x32⟩,
        ⟨S512x32, extractStridedSlice S512x32 ![0, 0] s slices_S512x64_o0_0_S512x32⟩] concatenates_S512x32_S512x32_S512x64_d1) sn))
      bitsLt_bf16_f32) shapeCasts_S512x64_S1x1x512x64

/-- The halves of a head's columns exchanged. -/
theorem exchange_at (s : S512x64.Idx → EReal) (r : Fin 512) (d : Fin 64) :
    concatenate S512x64 1 [⟨S512x32, extractStridedSlice S512x32 ![0, 32] s slices_S512x64_o0_32_S512x32⟩,
        ⟨S512x32, extractStridedSlice S512x32 ![0, 0] s slices_S512x64_o0_0_S512x32⟩] concatenates_S512x32_S512x32_S512x64_d1 (ix2 r d)
      = s (ix2 r (swap d)) := by
  by_cases hd : d.val < 32
  · refine (concatenate_pair_apply_left (s₁ := S512x32) (s₂ := S512x32) (t := S512x64) 1 _ _ _ _ rfl (ix2 r (half d)) fun b => ?_).trans
      (extractStridedSlice_apply _ _ _ _ _ fun b => ?_)
    · fin_cases b
      · rfl
      · exact Nat.mod_eq_of_lt hd
    · fin_cases b
      · exact (Nat.zero_add _).symm
      · show (d.val + 32) % 64 = 32 + d.val % 32
        omega
  · refine (concatenate_pair_apply_right (s₁ := S512x32) (s₂ := S512x32) (t := S512x64) 1 _ _ _ _ rfl rfl (ix2 r (half d)) (fun b hb => ?_) ?_).trans
      (extractStridedSlice_apply _ _ _ _ _ fun b => ?_)
    · fin_cases b
      · rfl
      · exact absurd rfl hb
    · show d.val % 32 + 32 = d.val
      omega
    · fin_cases b
      · exact (Nat.zero_add _).symm
      · show (d.val + 32) % 64 = 0 + d.val % 32
        omega

/-- A rotated head at a row and a column. -/
theorem ropePiece_at (o : ℕ) (hs) (cs sn : FVec Ideal S512x64 .f32) (x : FVec Ideal ⟨2, ![512, M]⟩ .f32) (ho : o + 64 ≤ M)
    (z z' : Fin 1) (r : Fin 512) (d : Fin 64) : ropePiece o hs cs sn x (ix4 z z' r d)
      = x (ix2 r ⟨o + d.val, by omega⟩) * cs (ix2 r d) + x (ix2 r ⟨o + (swap d).val, by omega⟩) * sn (ix2 r d) := by
  have e (d : Fin 64) : extractStridedSlice S512x64 ![0, o] x hs (ix2 r d) = x (ix2 r ⟨o + d.val, by omega⟩) :=
    extractStridedSlice_apply _ _ _ _ _ fun b => by
      fin_cases b
      · exact (Nat.zero_add _).symm
      · rfl
  unfold ropePiece
  refine (shapeCast_apply _ shapeCasts_S512x64_S1x1x512x64 (ix4 z z' r d) (ix2 r d) ?_).trans ?_
  · rw [Shape.rowMajor_val_four, Shape.rowMajor_val_two]
    show r.val * 64 + d.val = ((z.val * 1 + z'.val) * 512 + r.val) * 64 + d.val
    omega
  · exact congrArg₂ (fun p q : EReal => p * cs (ix2 r d) + q * sn (ix2 r d)) (e d) ((exchange_at _ r d).trans (e (swap d)))

/-- The block of all rotated heads. -/
def ropeBlk (o : ℕ) (ho : o + 1024 ≤ M) (cs sn : FVec Ideal S512x64 .f32) (x : FVec Ideal ⟨2, ![512, M]⟩ .f32)
    (i : S1x16x512x64.Idx) : EReal :=
  x (ix2 (i 2) (off o ho (col (i 1) (i 3)))) * cs (ix2 (i 2) (i 3))
    + x (ix2 (i 2) (off o ho (col (i 1) (swap (i 3))))) * sn (ix2 (i 2) (i 3))

/-- The piece stored for head `h` is the block's. -/
theorem ropeBlk_piece (o : ℕ) (ho : o + 1024 ≤ M) (h : Fin 16) (hs : Shape.Slices ⟨2, ![512, M]⟩ ![0, o + 64 * h.val] S512x64)
    (cs sn : FVec Ideal S512x64 .f32) (x : FVec Ideal ⟨2, ![512, M]⟩ .f32)
    (inb : ∀ a, ![0, h.val, 0, 0] a + S1x1x512x64.size a ≤ S1x16x512x64.size a) (y : S1x1x512x64.Idx) :
    ropePiece (o + 64 * h.val) hs cs sn x y
      = ropeBlk o ho cs sn x ((Rect.unit (s := S1x16x512x64) ![0, h.val, 0, 0] S1x1x512x64.size inb).emb y) := by
  obtain ⟨z, z', r, d, rfl⟩ : ∃ (z z' : Fin 1) (r : Fin 512) (d : Fin 64), y = ix4 z z' r d := ⟨_, _, _, _, eq_ix4 y⟩
  rw [ropePiece_at _ _ _ _ _ (by omega)]
  have e : (Rect.unit (s := S1x16x512x64) ![0, h.val, 0, 0] S1x1x512x64.size inb).emb (ix4 z z' r d) = ix4 0 h r d := by
    funext a
    refine Fin.ext ((ValueKit.rect_emb_unit_val _ _ _ _ _).trans ?_)
    fin_cases a
    · show 0 + z.val = 0; omega
    · show h.val + z'.val = h.val; omega
    · exact Nat.zero_add _
    · exact Nat.zero_add _
  rw [e]
  have e' (d : Fin 64) (p : o + 64 * h.val + d.val < M) : (⟨o + 64 * h.val + d.val, p⟩ : Fin M) = off o ho (col h d) :=
    Fin.ext (show o + 64 * h.val + d.val = o + (64 * h.val + d.val) by omega)
  rw [e' d, e' (swap d)]
  rfl

/-! ## The values -/

/-- One in the first of 64 columns, zero in the others. -/
def oneHot : FVec Ideal S512x64 .bf16 :=
  truncf .bf16 (select (cmpi .eq (iota .tc S512x64 32 [1] iota_S512x64_d1_w32) (broadcast S512x64 0#32))
    (broadcast S512x64 (Scalar.ofBits (F := Ideal) .f32 0x3F800000#32))
    (broadcast S512x64 (Scalar.ofBits (F := Ideal) .f32 0x00000000#32))) bitsLt_bf16_f32

/-- The column of ones, at an index. -/
theorem oneHot_at (r : Fin 512) (d : Fin 64) : oneHot (ix2 r d) = if d.val = 0 then 1 else 0 := by
  unfold oneHot
  pointwise
  have e : ∀ d : Fin 64, IntOp.cmpi .eq (BitVec.ofNat 32 d.val) 0#32 = if d.val = 0 then 1#1 else 0#1 := by decide
  rw [e d]
  split <;> rfl

/-- A head of values beside its column of ones. -/
def valPiece (o : ℕ) (hs : Shape.Slices ⟨2, ![512, M]⟩ ![0, o] S512x64) (x : FVec Ideal ⟨2, ![512, M]⟩ .f32) :
    FVec Ideal S1x1x512x128 .bf16 :=
  shapeCast S1x1x512x128
    (concatenate S512x128 1 [⟨S512x64, (truncf .bf16 (extractStridedSlice S512x64 ![0, o] x hs) bitsLt_bf16_f32 : FVec Ideal S512x64 .bf16)⟩, ⟨S512x64, oneHot⟩]
      concatenates_S512x64_S512x64_S512x128_d1) shapeCasts_S512x128_S1x1x512x128

/-- The block of all heads of values. -/
def valBlk (o : ℕ) (ho : o + 1024 ≤ M) (x : FVec Ideal ⟨2, ![512, M]⟩ .f32) (i : S1x16x512x128.Idx) : EReal :=
  if h : (i 3).val < 64 then x (ix2 (i 2) (off o ho (col (i 1) ⟨(i 3).val, h⟩))) else if (i 3).val = 64 then 1 else 0

/-- The piece stored for head `h` is the block's. -/
theorem valBlk_piece (o : ℕ) (ho : o + 1024 ≤ M) (h : Fin 16) (hs : Shape.Slices ⟨2, ![512, M]⟩ ![0, o + 64 * h.val] S512x64)
    (x : FVec Ideal ⟨2, ![512, M]⟩ .f32)
    (inb : ∀ a, ![0, h.val, 0, 0] a + S1x1x512x128.size a ≤ S1x16x512x128.size a) (y : S1x1x512x128.Idx) :
    valPiece (o + 64 * h.val) hs x y
      = valBlk o ho x ((Rect.unit (s := S1x16x512x128) ![0, h.val, 0, 0] S1x1x512x128.size inb).emb y) := by
  obtain ⟨z, z', r, d, rfl⟩ : ∃ (z z' : Fin 1) (r : Fin 512) (d : Fin 128), y = ix4 z z' r d := ⟨_, _, _, _, eq_ix4 y⟩
  have e : (Rect.unit (s := S1x16x512x128) ![0, h.val, 0, 0] S1x1x512x128.size inb).emb (ix4 z z' r d) = ix4 0 h r d := by
    funext a
    refine Fin.ext ((ValueKit.rect_emb_unit_val _ _ _ _ _).trans ?_)
    fin_cases a
    · show 0 + z.val = 0; omega
    · show h.val + z'.val = h.val; omega
    · exact Nat.zero_add _
    · exact Nat.zero_add _
  rw [e]
  unfold valPiece
  refine (shapeCast_apply _ shapeCasts_S512x128_S1x1x512x128 (ix4 z z' r d) (ix2 r d) ?_).trans ?_
  · rw [Shape.rowMajor_val_four, Shape.rowMajor_val_two]
    show r.val * 128 + d.val = ((z.val * 1 + z'.val) * 512 + r.val) * 128 + d.val
    omega
  show _ = if h' : d.val < 64 then x (ix2 r (off o ho (col h ⟨d.val, h'⟩))) else if d.val = 64 then 1 else 0
  split
  · next hd =>
    refine (concatenate_pair_apply_left (s₁ := S512x64) (s₂ := S512x64) (t := S512x128) 1 _ _ _ _ rfl (ix2 r ⟨d.val, hd⟩) fun b => ?_).trans
      (extractStridedSlice_apply _ _ hs _ _ fun b => ?_)
    · fin_cases b <;> rfl
    · fin_cases b
      · exact (Nat.zero_add _).symm
      · show o + (64 * h.val + d.val) = o + 64 * h.val + d.val
        omega
  · next hd =>
    refine (concatenate_pair_apply_right (s₁ := S512x64) (s₂ := S512x64) (t := S512x128) 1 _ _ _ _ rfl rfl (ix2 r ⟨d.val - 64, by omega⟩) (fun b hb => ?_) ?_).trans
      ((oneHot_at r _).trans ?_)
    · fin_cases b
      · rfl
      · exact absurd rfl hb
    · show d.val - 64 + 64 = d.val
      omega
    · exact if_congr (show d.val - 64 = 0 ↔ d.val = 64 by omega) rfl rfl

/-! ## The projections -/

/-- A block of rows times a weight matrix. -/
theorem matmul_at {K N : ℕ} (x : FVec Ideal ⟨2, ![K, 1024]⟩ .bf16) (w : FVec Ideal ⟨2, ![1024, N]⟩ .bf16) (r : Fin K) (j : Fin N) :
    matmul (DotDims.plain K 1024 N) none x w (constant ⟨2, ![K, N]⟩ .f32 0x00000000#32) (ix2 r j)
      = ∑ k : Fin 1024, x (ix2 r k) * w (ix2 k j) := by
  refine (Ideal.matmul_plain_apply _ _ _ _ r j).trans ?_
  show Ideal.ofBits .f32 0x00000000#32 + _ = _
  rw [Ideal.ofBits_zero_f32, zero_add]
  rfl

/-! ## Where the heads lie, and the blocks as the plain mathematics has them -/

/-- A head's columns lie in the projected block. -/
theorem slices_head (o : ℕ) (ho : o + 1024 ≤ M) (h : Fin 16) : Shape.Slices ⟨2, ![512, M]⟩ ![0, o + 64 * h.val] S512x64 :=
  ⟨rfl, fun a => by
    fin_cases a
    · exact Nat.le_refl 512
    · show o + 64 * h.val + 64 ≤ M; omega⟩

/-- A head's block lies in the block of all heads. -/
theorem inb_k (h : Fin 16) (a : Fin 4) : ![0, h.val, 0, 0] a + S1x1x512x64.size a ≤ S1x16x512x64.size a := by
  fin_cases a
  · exact Nat.le_refl 1
  · show h.val + 1 ≤ 16; omega
  · exact Nat.le_refl 512
  · exact Nat.le_refl 64

/-- A head's block of values lies in the block of all heads. -/
theorem inb_v (h : Fin 16) (a : Fin 4) : ![0, h.val, 0, 0] a + S1x1x512x128.size a ≤ S1x16x512x128.size a := by
  fin_cases a
  · exact Nat.le_refl 1
  · show h.val + 1 ≤ 16; omega
  · exact Nat.le_refl 512
  · exact Nat.le_refl 128

/-- The block of rotated heads, from a projected row and the tables. -/
theorem ropeBlk_rope (o : ℕ) (ho : o + 1024 ≤ M) (cs sn : FVec Ideal S512x64 .f32) (x : FVec Ideal ⟨2, ![512, M]⟩ .f32)
    (f : Fin 1024 → EReal) (p : Fin 1024) (z : Fin 1) (h : Fin 16) (r : Fin 512) (d : Fin 64)
    (hx : ∀ j, x (ix2 r (off o ho j)) = f j) (hc : ∀ d, cs (ix2 r d) = cosT p (half d)) (hs : ∀ d, sn (ix2 r d) = sgnSin p d) :
    ropeBlk o ho cs sn x (ix4 z h r d) = rope f p h d := by
  rw [← rope_kernel]
  show x (ix2 r (off o ho (col h d))) * cs (ix2 r d) + x (ix2 r (off o ho (col h (swap d)))) * sn (ix2 r d) = _
  rw [hx, hx, hc, hs]

/-- A head's values beside a column of ones. -/
def vOnes (a : Args) (b : Fin 2) (n : Fin 5120) (h : Fin 16) (d : Fin 128) : EReal :=
  if hd : d.val < 64 then vv a b n h ⟨d.val, hd⟩ else if d.val = 64 then 1 else 0

/-- The block of values, from a projected row. -/
theorem valBlk_vOnes (o : ℕ) (ho : o + 1024 ≤ M) (x : FVec Ideal ⟨2, ![512, M]⟩ .f32)
    (a : Args) (b : Fin 2) (n : Fin 5120) (z : Fin 1) (h : Fin 16) (r : Fin 512) (d : Fin 128)
    (hx : ∀ j, x (ix2 r (off o ho j)) = proj a.wv (kvRow a b n) j) :
    valBlk o ho x (ix4 z h r d) = vOnes a b n h d := by
  unfold valBlk vOnes vv
  refine dite_congr rfl (fun hd => ?_) fun _ => rfl
  exact hx _

end Cert.KV

end
-- ==== Proof.Reg0.lean ====
/- What the cached layers' projections leave: rotated keys, and values beside a column of ones, for every head. -/
module

public import proofs.«01_k».proof.Proof.Pieces

@[expose] public section

noncomputable section

namespace Cert.KV

open Cert.KernelIdeal Cert.KernelIdeal.Gen Cert.Spec
open Idealize.ShloMosaic Idealize.ShloMosaic.ValueKit
open scoped BigOperators

/-! ## One block -/

variable (x0 : Vec Ideal S1x1x512x1024 .f32) (x1 x2 : Vec Ideal S512x64 .f32) (x3 : Vec Ideal S1024x2048 .bf16)

/-- The cosines' block is read as it is. -/
theorem k0_cos : k0_pay46 x0 x1 x2 x3 = x1 := by
  unfold k0_pay46 k0_pay5
  funext i
  rw [eq_ix2 i]
  pointwise

/-- The sines' block is read as it is. -/
theorem k0_sin : k0_pay47 x0 x1 x2 x3 = x2 := by
  unfold k0_pay47 k0_pay6
  funext i
  rw [eq_ix2 i]
  pointwise

/-- The projected rows. -/
theorem k0_proj (r : Fin 512) (j : Fin 2048) :
    k0_pay48 x0 x1 x2 x3 (ix2 r j) = ∑ k : Fin 1024, x0 (ix4 0 0 r k) * x3 (ix2 k j) := by
  unfold k0_pay48 k0_pay7
  pointwise

/-- The block of keys. -/
theorem out0_4_eq : out0_4 x0 x1 x2 x3 = ropeBlk 0 (by decide) x1 x2 (k0_pay48 x0 x1 x2 x3) := by
  refine Eq.trans (b := ropeBlk 0 (by decide) (k0_pay46 x0 x1 x2 x3) (k0_pay47 x0 x1 x2 x3) (k0_pay48 x0 x1 x2 x3)) ?_
    (by rw [k0_cos, k0_sin])
  funext y
  unfold out0_4
  refine View.canon_apply_of_pieces _ _ ?_ y (cover0_4 _ _ _ _ _ _ _ _ _ _ _ _ _ _ _ _ y)
  have H (h : Fin 16) := ropeBlk_piece 0 (by decide) h (slices_head 0 (by decide) h) (k0_pay46 x0 x1 x2 x3) (k0_pay47 x0 x1 x2 x3)
    (k0_pay48 x0 x1 x2 x3) (inb_k h)
  exact List.forall_mem_cons.2 ⟨H 15, List.forall_mem_cons.2 ⟨H 14, List.forall_mem_cons.2 ⟨H 13, List.forall_mem_cons.2 ⟨H 12,
    List.forall_mem_cons.2 ⟨H 11, List.forall_mem_cons.2 ⟨H 10, List.forall_mem_cons.2 ⟨H 9, List.forall_mem_cons.2 ⟨H 8,
    List.forall_mem_cons.2 ⟨H 7, List.forall_mem_cons.2 ⟨H 6, List.forall_mem_cons.2 ⟨H 5, List.forall_mem_cons.2 ⟨H 4,
    List.forall_mem_cons.2 ⟨H 3, List.forall_mem_cons.2 ⟨H 2, List.forall_mem_cons.2 ⟨H 1, List.forall_mem_cons.2 ⟨H 0,
    fun _ h => absurd h List.not_mem_nil⟩⟩⟩⟩⟩⟩⟩⟩⟩⟩⟩⟩⟩⟩⟩⟩

/-- The block of values. -/
theorem out0_5_eq : out0_5 x0 x1 x2 x3 = valBlk 1024 (by decide) (k0_pay48 x0 x1 x2 x3) := by
  funext y
  unfold out0_5
  refine View.canon_apply_of_pieces _ _ ?_ y (cover0_5 _ _ _ _ _ _ _ _ _ _ _ _ _ _ _ _ y)
  have H (h : Fin 16) := valBlk_piece 1024 (by decide) h (slices_head 1024 (by decide) h) (k0_pay48 x0 x1 x2 x3) (inb_v h)
  exact List.forall_mem_cons.2 ⟨H 15, List.forall_mem_cons.2 ⟨H 14, List.forall_mem_cons.2 ⟨H 13, List.forall_mem_cons.2 ⟨H 12,
    List.forall_mem_cons.2 ⟨H 11, List.forall_mem_cons.2 ⟨H 10, List.forall_mem_cons.2 ⟨H 9, List.forall_mem_cons.2 ⟨H 8,
    List.forall_mem_cons.2 ⟨H 7, List.forall_mem_cons.2 ⟨H 6, List.forall_mem_cons.2 ⟨H 5, List.forall_mem_cons.2 ⟨H 4,
    List.forall_mem_cons.2 ⟨H 3, List.forall_mem_cons.2 ⟨H 2, List.forall_mem_cons.2 ⟨H 1, List.forall_mem_cons.2 ⟨H 0,
    fun _ h => absurd h List.not_mem_nil⟩⟩⟩⟩⟩⟩⟩⟩⟩⟩⟩⟩⟩⟩⟩⟩

/-! ## The whole arrays -/

variable (m : (ℓ : Loc nD τ sig) → Buf (Elt Ideal) ℓ) (ρ : Dev nD → PrngReg) (c : Dev nD)

/-- Where the blocks of the cached layers lie. -/
theorem idx0_0 : ∀ t : Fin cfg0.N, win0_0.index t = ![t.val % 8 / 2, t.val / 8, t.val % 2, 0] :=
  (by decide +kernel : ∀ t : Fin grid0.N, _)
/-- Where the blocks of the cosines lie. -/
theorem idx0_1 : ∀ t : Fin cfg0.N, win0_1.index t = ![t.val % 2, 0] := (by decide +kernel : ∀ t : Fin grid0.N, _)
/-- Where the blocks of the sines lie. -/
theorem idx0_2 : ∀ t : Fin cfg0.N, win0_2.index t = ![t.val % 2, 0] := (by decide +kernel : ∀ t : Fin grid0.N, _)
/-- The weights are one block. -/
theorem idx0_3 : ∀ t : Fin cfg0.N, win0_3.index t = ![0, 0] := (by decide +kernel : ∀ t : Fin grid0.N, _)
/-- Where the blocks of keys lie. -/
theorem idx0_4 : ∀ t : Fin cfg0.N, win0_4.index t = ![t.val / 8, 0, t.val % 8, 0] := (by decide +kernel : ∀ t : Fin grid0.N, _)
/-- Where the blocks of values lie. -/
theorem idx0_5 : ∀ t : Fin cfg0.N, win0_5.index t = ![t.val / 8, 0, t.val % 8, 0] := (by decide +kernel : ∀ t : Fin grid0.N, _)

/-- The batch of a point. -/
def bat0 (t : Fin cfg0.N) : Fin 2 := ⟨t.val / 8, have : t.val < 16 := t.isLt; by omega⟩
/-- A row of a point's block, as a cached row. -/
def row0 (t : Fin cfg0.N) (r : Fin 512) : Fin 4096 := ⟨t.val % 8 * 512 + r.val, by omega⟩

/-- A block of the cached layers. -/
theorem blk0_0 (t : Fin cfg0.N) (r : Fin 512) (k : Fin 1024) :
    iblk0 (V1 m ρ) c 0 t (ix4 0 0 r k) = kvRow (argsOf m c) (bat0 t) (old (row0 t r)) k := by
  have ht : t.val < 16 := t.isLt
  refine Eq.trans (b := (argsOf m c).cache (ix4 ⟨t.val % 8 / 2, by omega⟩ (bat0 t) ⟨t.val % 2 * 512 + r.val, by omega⟩ k)) ?_ ?_
  · blk_simp [iblk0, idx0_0]
    refine (congrFun (W1_args m ρ c main_arg1 (by decide)) _).trans ?_
    unfold bat0
    blk_ext [idx0_0]
  · unfold kvRow
    rw [dif_pos (by show t.val % 8 * 512 + r.val < 4096; omega)]
    unfold cacheRow
    refine congrArg₂ (fun w r => (argsOf m c).cache (ix4 w (bat0 t) r k)) (Fin.ext ?_) (Fin.ext ?_)
    · show t.val % 8 / 2 = (t.val % 8 * 512 + r.val) / 1024
      omega
    · show t.val % 2 * 512 + r.val = (t.val % 8 * 512 + r.val) % 1024
      omega

/-- A block of the cosines. -/
theorem blk0_1 (t : Fin cfg0.N) (r : Fin 512) (d : Fin 64) :
    iblk0 (V1 m ρ) c 1 t (ix2 r d) = cosT (pos (old (row0 t r))) (half d) := by
  rw [← cos_at m ρ c]
  blk_simp [iblk0]
  generalize V1 m ρ c main_v23 = y
  unfold pos old row0
  blk_ext [idx0_1]

/-- A block of the sines. -/
theorem blk0_2 (t : Fin cfg0.N) (r : Fin 512) (d : Fin 64) :
    iblk0 (V1 m ρ) c 2 t (ix2 r d) = sgnSin (pos (old (row0 t r))) d := by
  rw [← sin_at m ρ c]
  blk_simp [iblk0]
  generalize V1 m ρ c main_v25 = y
  unfold pos old row0
  blk_ext [idx0_2]

/-- The weights' block. -/
theorem blk0_3 (t : Fin cfg0.N) (k : Fin 1024) (j : Fin 2048) :
    iblk0 (V1 m ρ) c 3 t (ix2 k j) = V1 m ρ c main_v2 (ix2 k j) := by
  blk_simp [iblk0]
  generalize V1 m ρ c main_v2 = y
  blk_ext [idx0_3]

/-- The cached rows projected to keys. -/
theorem proj0_k (t : Fin cfg0.N) (r : Fin 512) (j : Fin 1024) :
    k0_pay48 (iblk0 (V1 m ρ) c 0 t) (iblk0 (V1 m ρ) c 1 t) (iblk0 (V1 m ρ) c 2 t) (iblk0 (V1 m ρ) c 3 t) (ix2 r (off 0 (by decide) j))
      = proj (argsOf m c).wk (kvRow (argsOf m c) (bat0 t) (old (row0 t r))) j := by
  refine (k0_proj _ _ _ _ _ _).trans (Finset.sum_congr rfl fun k _ => ?_)
  rw [blk0_0, blk0_3, ← wkv_k m ρ c]
  refine congrArg (fun j => _ * V1 m ρ c main_v2 (ix2 k j)) (Fin.ext ?_)
  exact Nat.zero_add _

/-- The cached rows projected to values. -/
theorem proj0_v (t : Fin cfg0.N) (r : Fin 512) (j : Fin 1024) :
    k0_pay48 (iblk0 (V1 m ρ) c 0 t) (iblk0 (V1 m ρ) c 1 t) (iblk0 (V1 m ρ) c 2 t) (iblk0 (V1 m ρ) c 3 t) (ix2 r (off 1024 (by decide) j))
      = proj (argsOf m c).wv (kvRow (argsOf m c) (bat0 t) (old (row0 t r))) j := by
  refine (k0_proj _ _ _ _ _ _).trans (Finset.sum_congr rfl fun k _ => ?_)
  rw [blk0_0, blk0_3, ← wkv_v m ρ c]
  rfl

/-- The keys of the cached rows. -/
theorem kc_arr : (dat0 (V1 m ρ) c).arrAt 4 cfg0.N
    = fun i : S2x16x4096x64.Idx => kk (argsOf m c) (i 0) (old (i 2)) (i 1) (i 3) := by
  refine (dat0 (V1 m ρ) c).arrAt_eq_of_covers 4 _ (by decide +kernel) fun t hf y => ?_
  obtain ⟨z, h, r, d, rfl⟩ : ∃ (z : Fin 1) (h : Fin 16) (r : Fin 512) (d : Fin 64), y = ix4 z h r d := ⟨_, _, _, _, eq_ix4 y⟩
  rw [after0_4, out0_4_eq]
  have ht : t.val < 16 := t.isLt
  have e : (win0_4.blk t).view.emb (ix4 z h r d) = ix4 (bat0 t) h (row0 t r) d := by
    unfold bat0 row0
    blk_ext [idx0_4]
  blk_simp
  rw [e]
  exact ropeBlk_rope _ _ _ _ _ _ _ _ _ _ _ (proj0_k m ρ c t r) (blk0_1 m ρ c t r) (blk0_2 m ρ c t r)

/-- The values of the cached rows, beside ones. -/
theorem vc_arr : (dat0 (V1 m ρ) c).arrAt 5 cfg0.N = fun i : S2x16x4096x128.Idx => vOnes (argsOf m c) (i 0) (old (i 2)) (i 1) (i 3) := by
  refine (dat0 (V1 m ρ) c).arrAt_eq_of_covers 5 _ (by decide +kernel) fun t hf y => ?_
  obtain ⟨z, h, r, d, rfl⟩ : ∃ (z : Fin 1) (h : Fin 16) (r : Fin 512) (d : Fin 128), y = ix4 z h r d := ⟨_, _, _, _, eq_ix4 y⟩
  rw [after0_5, out0_5_eq]
  have ht : t.val < 16 := t.isLt
  have e : (win0_5.blk t).view.emb (ix4 z h r d) = ix4 (bat0 t) h (row0 t r) d := by
    unfold bat0 row0
    blk_ext [idx0_5]
  blk_simp
  rw [e]
  exact valBlk_vOnes _ _ _ _ _ _ _ _ _ _ (proj0_v m ρ c t r)

end Cert.KV

end
-- ==== Proof.Reg1.lean ====
/- What the new rows' projections leave: rotated queries and keys, and values beside a column of ones, for every head. -/
module

public import proofs.«01_k».proof.Proof.Pieces

@[expose] public section

noncomputable section

namespace Cert.KV

open Cert.KernelIdeal Cert.KernelIdeal.Gen Cert.Spec
open Idealize.ShloMosaic Idealize.ShloMosaic.ValueKit
open scoped BigOperators

/-! ## One block -/

variable (x0 : Vec Ideal S1x512x1024 .f32) (x1 x2 : Vec Ideal S1x1024 .f32) (x3 x4 : Vec Ideal S512x64 .f32)
  (x5 : Vec Ideal S1024x3072 .bf16)

/-- The cosines' block is read as it is. -/
theorem k1_cos : k1_pay64 x0 x1 x2 x3 x4 x5 = x3 := by
  unfold k1_pay64 k1_pay4
  funext i
  rw [eq_ix2 i]
  pointwise

/-- The sines' block is read as it is. -/
theorem k1_sin : k1_pay65 x0 x1 x2 x3 x4 x5 = x4 := by
  unfold k1_pay65 k1_pay5
  funext i
  rw [eq_ix2 i]
  pointwise

/-- The normalized rows, projected. -/
theorem k1_proj (r : Fin 512) (j : Fin 3072) : k1_pay66 x0 x1 x2 x3 x4 x5 (ix2 r j)
    = ∑ k : Fin 1024, lnRow (fun k => x0 (ix3 0 r k)) (fun k => x1 (ix2 0 k)) (fun k => x2 (ix2 0 k)) k * x5 (ix2 k j) := by
  unfold k1_pay66 k1_pay6
  pointwise
  rfl

/-- The projected queries, scaled. -/
theorem k1_scaled (r : Fin 512) (j : Fin 1024) :
    k1_pay67 x0 x1 x2 x3 x4 x5 (ix2 r j) = k1_pay66 x0 x1 x2 x3 x4 x5 (ix2 r ⟨j.val, by omega⟩) * qscale := by
  unfold k1_pay67 k1_pay7 k1_pay66
  generalize k1_pay6 (F := Ideal) _ _ _ _ = y
  refine congrArg₂ (fun p q : EReal => p * q) ?_ (IdealRules.named_const.ideal_named_scalar _ _ _ _ rfl)
  exact extractStridedSlice_apply _ _ _ _ _ fun a => by
    fin_cases a
    · exact (Nat.zero_add _).symm
    · exact (Nat.zero_add _).symm

/-- The block of queries. -/
theorem out1_6_eq : out1_6 x0 x1 x2 x3 x4 x5 = ropeBlk 0 (by decide) x3 x4 (k1_pay67 x0 x1 x2 x3 x4 x5) := by
  refine Eq.trans (b := ropeBlk 0 (by decide) (k1_pay64 x0 x1 x2 x3 x4 x5) (k1_pay65 x0 x1 x2 x3 x4 x5) (k1_pay67 x0 x1 x2 x3 x4 x5)) ?_
    (by rw [k1_cos, k1_sin])
  funext y
  unfold out1_6
  refine View.canon_apply_of_pieces _ _ ?_ y (cover1_6 _ _ _ _ _ _ _ _ _ _ _ _ _ _ _ _ y)
  have H (h : Fin 16) := ropeBlk_piece 0 (by decide) h (slices_head 0 (by decide) h) (k1_pay64 x0 x1 x2 x3 x4 x5) (k1_pay65 x0 x1 x2 x3 x4 x5)
    (k1_pay67 x0 x1 x2 x3 x4 x5) (inb_k h)
  exact List.forall_mem_cons.2 ⟨H 15, List.forall_mem_cons.2 ⟨H 14, List.forall_mem_cons.2 ⟨H 13, List.forall_mem_cons.2 ⟨H 12,
    List.forall_mem_cons.2 ⟨H 11, List.forall_mem_cons.2 ⟨H 10, List.forall_mem_cons.2 ⟨H 9, List.forall_mem_cons.2 ⟨H 8,
    List.forall_mem_cons.2 ⟨H 7, List.forall_mem_cons.2 ⟨H 6, List.forall_mem_cons.2 ⟨H 5, List.forall_mem_cons.2 ⟨H 4,
    List.forall_mem_cons.2 ⟨H 3, List.forall_mem_cons.2 ⟨H 2, List.forall_mem_cons.2 ⟨H 1, List.forall_mem_cons.2 ⟨H 0,
    fun _ h => absurd h List.not_mem_nil⟩⟩⟩⟩⟩⟩⟩⟩⟩⟩⟩⟩⟩⟩⟩⟩

/-- The block of keys. -/
theorem out1_7_eq : out1_7 x0 x1 x2 x3 x4 x5 = ropeBlk 1024 (by decide) x3 x4 (k1_pay66 x0 x1 x2 x3 x4 x5) := by
  refine Eq.trans (b := ropeBlk 1024 (by decide) (k1_pay64 x0 x1 x2 x3 x4 x5) (k1_pay65 x0 x1 x2 x3 x4 x5) (k1_pay66 x0 x1 x2 x3 x4 x5)) ?_
    (by rw [k1_cos, k1_sin])
  funext y
  unfold out1_7
  refine View.canon_apply_of_pieces _ _ ?_ y (cover1_7 _ _ _ _ _ _ _ _ _ _ _ _ _ _ _ _ y)
  have H (h : Fin 16) := ropeBlk_piece 1024 (by decide) h (slices_head 1024 (by decide) h) (k1_pay64 x0 x1 x2 x3 x4 x5)
    (k1_pay65 x0 x1 x2 x3 x4 x5) (k1_pay66 x0 x1 x2 x3 x4 x5) (inb_k h)
  exact List.forall_mem_cons.2 ⟨H 15, List.forall_mem_cons.2 ⟨H 14, List.forall_mem_cons.2 ⟨H 13, List.forall_mem_cons.2 ⟨H 12,
    List.forall_mem_cons.2 ⟨H 11, List.forall_mem_cons.2 ⟨H 10, List.forall_mem_cons.2 ⟨H 9, List.forall_mem_cons.2 ⟨H 8,
    List.forall_mem_cons.2 ⟨H 7, List.forall_mem_cons.2 ⟨H 6, List.forall_mem_cons.2 ⟨H 5, List.forall_mem_cons.2 ⟨H 4,
    List.forall_mem_cons.2 ⟨H 3, List.forall_mem_cons.2 ⟨H 2, List.forall_mem_cons.2 ⟨H 1, List.forall_mem_cons.2 ⟨H 0,
    fun _ h => absurd h List.not_mem_nil⟩⟩⟩⟩⟩⟩⟩⟩⟩⟩⟩⟩⟩⟩⟩⟩

/-- The block of values. -/
theorem out1_8_eq : out1_8 x0 x1 x2 x3 x4 x5 = valBlk 2048 (by decide) (k1_pay66 x0 x1 x2 x3 x4 x5) := by
  funext y
  unfold out1_8
  refine View.canon_apply_of_pieces _ _ ?_ y (cover1_8 _ _ _ _ _ _ _ _ _ _ _ _ _ _ _ _ y)
  have H (h : Fin 16) := valBlk_piece 2048 (by decide) h (slices_head 2048 (by decide) h) (k1_pay66 x0 x1 x2 x3 x4 x5) (inb_v h)
  exact List.forall_mem_cons.2 ⟨H 15, List.forall_mem_cons.2 ⟨H 14, List.forall_mem_cons.2 ⟨H 13, List.forall_mem_cons.2 ⟨H 12,
    List.forall_mem_cons.2 ⟨H 11, List.forall_mem_cons.2 ⟨H 10, List.forall_mem_cons.2 ⟨H 9, List.forall_mem_cons.2 ⟨H 8,
    List.forall_mem_cons.2 ⟨H 7, List.forall_mem_cons.2 ⟨H 6, List.forall_mem_cons.2 ⟨H 5, List.forall_mem_cons.2 ⟨H 4,
    List.forall_mem_cons.2 ⟨H 3, List.forall_mem_cons.2 ⟨H 2, List.forall_mem_cons.2 ⟨H 1, List.forall_mem_cons.2 ⟨H 0,
    fun _ h => absurd h List.not_mem_nil⟩⟩⟩⟩⟩⟩⟩⟩⟩⟩⟩⟩⟩⟩⟩⟩

/-! ## The whole arrays -/

variable (m : (ℓ : Loc nD τ sig) → Buf (Elt Ideal) ℓ) (ρ : Dev nD → PrngReg) (c : Dev nD)

/-- Where the blocks of the hidden states lie. -/
theorem idx1_0 : ∀ t : Fin cfg1.N, win1_0.index t = ![t.val / 2, t.val % 2, 0] := (by decide +kernel : ∀ t : Fin grid1.N, _)
/-- The scales are one block. -/
theorem idx1_1 : ∀ t : Fin cfg1.N, win1_1.index t = ![0, 0] := (by decide +kernel : ∀ t : Fin grid1.N, _)
/-- The shifts are one block. -/
theorem idx1_2 : ∀ t : Fin cfg1.N, win1_2.index t = ![0, 0] := (by decide +kernel : ∀ t : Fin grid1.N, _)
/-- Where the blocks of the cosines lie. -/
theorem idx1_3 : ∀ t : Fin cfg1.N, win1_3.index t = ![t.val % 2, 0] := (by decide +kernel : ∀ t : Fin grid1.N, _)
/-- Where the blocks of the sines lie. -/
theorem idx1_4 : ∀ t : Fin cfg1.N, win1_4.index t = ![t.val % 2, 0] := (by decide +kernel : ∀ t : Fin grid1.N, _)
/-- The weights are one block. -/
theorem idx1_5 : ∀ t : Fin cfg1.N, win1_5.index t = ![0, 0] := (by decide +kernel : ∀ t : Fin grid1.N, _)
/-- Where the blocks of queries lie. -/
theorem idx1_6 : ∀ t : Fin cfg1.N, win1_6.index t = ![t.val / 2, 0, t.val % 2, 0] := (by decide +kernel : ∀ t : Fin grid1.N, _)
/-- Where the blocks of keys lie. -/
theorem idx1_7 : ∀ t : Fin cfg1.N, win1_7.index t = ![t.val / 2, 0, t.val % 2, 0] := (by decide +kernel : ∀ t : Fin grid1.N, _)
/-- Where the blocks of values lie. -/
theorem idx1_8 : ∀ t : Fin cfg1.N, win1_8.index t = ![t.val / 2, 0, t.val % 2, 0] := (by decide +kernel : ∀ t : Fin grid1.N, _)

/-- The batch of a point. -/
def bat1 (t : Fin cfg1.N) : Fin 2 := ⟨t.val / 2, have : t.val < 4 := t.isLt; by omega⟩
/-- A row of a point's block, as a new row. -/
def row1 (t : Fin cfg1.N) (r : Fin 512) : Fin 1024 := ⟨t.val % 2 * 512 + r.val, by omega⟩

/-- A block of the hidden states. -/
theorem blk1_0 (t : Fin cfg1.N) (r : Fin 512) (k : Fin 1024) :
    iblk1 (V2 m ρ) c 0 t (ix3 0 r k) = (argsOf m c).hid (ix3 (bat1 t) (row1 t r) k) := by
  have ht : t.val < 4 := t.isLt
  blk_simp [iblk1]
  refine (congrFun (W2_args m ρ c main_arg0 (by decide)) _).trans ?_
  unfold bat1 row1
  blk_ext [idx1_0]

/-- The scales' block. -/
theorem blk1_1 (t : Fin cfg1.N) (k : Fin 1024) : iblk1 (V2 m ρ) c 1 t (ix2 0 k) = (argsOf m c).lns (ix1 k) := by
  rw [← lns_at m ρ c]
  blk_simp [iblk1]
  refine (congrFun (W2_of m ρ c main_v4 (by decide)) _).trans ?_
  show V1 m ρ c main_v4 _ = V1 m ρ c main_v4 _
  generalize V1 m ρ c main_v4 = y
  blk_ext [idx1_1]

/-- The shifts' block. -/
theorem blk1_2 (t : Fin cfg1.N) (k : Fin 1024) : iblk1 (V2 m ρ) c 2 t (ix2 0 k) = (argsOf m c).lnb (ix1 k) := by
  rw [← lnb_at m ρ c]
  blk_simp [iblk1]
  refine (congrFun (W2_of m ρ c main_v5 (by decide)) _).trans ?_
  show V1 m ρ c main_v5 _ = V1 m ρ c main_v5 _
  generalize V1 m ρ c main_v5 = y
  blk_ext [idx1_2]

/-- A block of the cosines. -/
theorem blk1_3 (t : Fin cfg1.N) (r : Fin 512) (d : Fin 64) : iblk1 (V2 m ρ) c 3 t (ix2 r d) = cosT (row1 t r) (half d) := by
  rw [← cos_at m ρ c]
  blk_simp [iblk1]
  refine (congrFun (W2_of m ρ c main_v23 (by decide)) _).trans ?_
  show V1 m ρ c main_v23 _ = V1 m ρ c main_v23 _
  generalize V1 m ρ c main_v23 = y
  unfold row1
  blk_ext [idx1_3]

/-- A block of the sines. -/
theorem blk1_4 (t : Fin cfg1.N) (r : Fin 512) (d : Fin 64) : iblk1 (V2 m ρ) c 4 t (ix2 r d) = sgnSin (row1 t r) d := by
  rw [← sin_at m ρ c]
  blk_simp [iblk1]
  refine (congrFun (W2_of m ρ c main_v25 (by decide)) _).trans ?_
  show V1 m ρ c main_v25 _ = V1 m ρ c main_v25 _
  generalize V1 m ρ c main_v25 = y
  unfold row1
  blk_ext [idx1_4]

/-- The weights' block. -/
theorem blk1_5 (t : Fin cfg1.N) (k : Fin 1024) (j : Fin 3072) : iblk1 (V2 m ρ) c 5 t (ix2 k j) = wall m c (ix2 k j) := by
  rw [← W1_v1 m ρ c]
  blk_simp [iblk1]
  refine (congrFun (W2_of m ρ c main_v1 (by decide)) _).trans ?_
  show V1 m ρ c main_v1 _ = V1 m ρ c main_v1 _
  generalize V1 m ρ c main_v1 = y
  blk_ext [idx1_5]

/-- The projections of a point's rows. -/
theorem proj1 (t : Fin cfg1.N) (r : Fin 512) (j : Fin 3072) :
    k1_pay66 (iblk1 (V2 m ρ) c 0 t) (iblk1 (V2 m ρ) c 1 t) (iblk1 (V2 m ρ) c 2 t) (iblk1 (V2 m ρ) c 3 t) (iblk1 (V2 m ρ) c 4 t)
        (iblk1 (V2 m ρ) c 5 t) (ix2 r j)
      = ∑ k : Fin 1024, normed (argsOf m c) (bat1 t) (row1 t r) k * wall m c (ix2 k j) := by
  refine (k1_proj _ _ _ _ _ _ _ _).trans (Finset.sum_congr rfl fun k _ => ?_)
  rw [blk1_5]
  simp only [blk1_0, blk1_1, blk1_2]
  rfl

/-- A new row, among the 5120. -/
theorem kvRow_new (a : Args) (b : Fin 2) (r : Fin 1024) : kvRow a b (new r) = normed a b r := by
  unfold kvRow
  rw [dif_neg (by show ¬ 4096 + r.val < 4096; omega)]
  exact congrArg _ (Fin.ext (show 4096 + r.val - 4096 = r.val by omega))

/-- A new row's position. -/
theorem pos_new (r : Fin 1024) : pos (new r) = r := Fin.ext (show (4096 + r.val) % 1024 = r.val by omega)

/-- The new rows projected to queries, and scaled. -/
theorem proj1_q (t : Fin cfg1.N) (r : Fin 512) (j : Fin 1024) :
    k1_pay67 (iblk1 (V2 m ρ) c 0 t) (iblk1 (V2 m ρ) c 1 t) (iblk1 (V2 m ρ) c 2 t) (iblk1 (V2 m ρ) c 3 t) (iblk1 (V2 m ρ) c 4 t)
        (iblk1 (V2 m ρ) c 5 t) (ix2 r (off 0 (by decide) j))
      = proj (argsOf m c).wq (normed (argsOf m c) (bat1 t) (row1 t r)) j * qscale := by
  refine (k1_scaled _ _ _ _ _ _ _ _).trans (congrArg (fun p : EReal => p * qscale) ((proj1 m ρ c t r _).trans
    (Finset.sum_congr rfl fun k _ => ?_)))
  rw [← wall_q m c]
  exact congrArg (fun j => _ * wall m c (ix2 k j)) (Fin.ext (Nat.zero_add _))

/-- The new rows projected to keys. -/
theorem proj1_k (t : Fin cfg1.N) (r : Fin 512) (j : Fin 1024) :
    k1_pay66 (iblk1 (V2 m ρ) c 0 t) (iblk1 (V2 m ρ) c 1 t) (iblk1 (V2 m ρ) c 2 t) (iblk1 (V2 m ρ) c 3 t) (iblk1 (V2 m ρ) c 4 t)
        (iblk1 (V2 m ρ) c 5 t) (ix2 r (off 1024 (by decide) j))
      = proj (argsOf m c).wk (kvRow (argsOf m c) (bat1 t) (new (row1 t r))) j := by
  refine (proj1 m ρ c t r _).trans (Finset.sum_congr rfl fun k _ => ?_)
  rw [← wall_k m c, kvRow_new]
  rfl

/-- The new rows projected to values. -/
theorem proj1_v (t : Fin cfg1.N) (r : Fin 512) (j : Fin 1024) :
    k1_pay66 (iblk1 (V2 m ρ) c 0 t) (iblk1 (V2 m ρ) c 1 t) (iblk1 (V2 m ρ) c 2 t) (iblk1 (V2 m ρ) c 3 t) (iblk1 (V2 m ρ) c 4 t)
        (iblk1 (V2 m ρ) c 5 t) (ix2 r (off 2048 (by decide) j))
      = proj (argsOf m c).wv (kvRow (argsOf m c) (bat1 t) (new (row1 t r))) j := by
  refine (proj1 m ρ c t r _).trans (Finset.sum_congr rfl fun k _ => ?_)
  rw [← wall_v m c, kvRow_new]
  rfl

/-- The queries. -/
theorem q_arr : (dat1 (V2 m ρ) c).arrAt 6 cfg1.N
    = fun i : S2x16x1024x64.Idx => qs (argsOf m c) (i 0) (i 2) (i 1) (i 3) := by
  refine (dat1 (V2 m ρ) c).arrAt_eq_of_covers 6 _ (by decide +kernel) fun t hf y => ?_
  obtain ⟨z, h, r, d, rfl⟩ : ∃ (z : Fin 1) (h : Fin 16) (r : Fin 512) (d : Fin 64), y = ix4 z h r d := ⟨_, _, _, _, eq_ix4 y⟩
  rw [after1_6, out1_6_eq]
  have ht : t.val < 4 := t.isLt
  have e : (win1_6.blk t).view.emb (ix4 z h r d) = ix4 (bat1 t) h (row1 t r) d := by
    unfold bat1 row1
    blk_ext [idx1_6]
  blk_simp
  rw [e]
  exact ropeBlk_rope _ _ _ _ _ _ _ _ _ _ _ (proj1_q m ρ c t r) (blk1_3 m ρ c t r) (blk1_4 m ρ c t r)

/-- The keys of the new rows. -/
theorem kn_arr : (dat1 (V2 m ρ) c).arrAt 7 cfg1.N
    = fun i : S2x16x1024x64.Idx => kk (argsOf m c) (i 0) (new (i 2)) (i 1) (i 3) := by
  refine (dat1 (V2 m ρ) c).arrAt_eq_of_covers 7 _ (by decide +kernel) fun t hf y => ?_
  obtain ⟨z, h, r, d, rfl⟩ : ∃ (z : Fin 1) (h : Fin 16) (r : Fin 512) (d : Fin 64), y = ix4 z h r d := ⟨_, _, _, _, eq_ix4 y⟩
  rw [after1_7, out1_7_eq]
  have ht : t.val < 4 := t.isLt
  have e : (win1_7.blk t).view.emb (ix4 z h r d) = ix4 (bat1 t) h (row1 t r) d := by
    unfold bat1 row1
    blk_ext [idx1_7]
  blk_simp
  rw [e]
  exact (ropeBlk_rope _ _ _ _ _ _ _ _ _ _ _ (proj1_k m ρ c t r) (blk1_3 m ρ c t r) (blk1_4 m ρ c t r)).trans
    (congrArg (fun p => rope _ p h d) (pos_new _).symm)

/-- The values of the new rows, beside ones. -/
theorem vn_arr : (dat1 (V2 m ρ) c).arrAt 8 cfg1.N = fun i : S2x16x1024x128.Idx => vOnes (argsOf m c) (i 0) (new (i 2)) (i 1) (i 3) := by
  refine (dat1 (V2 m ρ) c).arrAt_eq_of_covers 8 _ (by decide +kernel) fun t hf y => ?_
  obtain ⟨z, h, r, d, rfl⟩ : ∃ (z : Fin 1) (h : Fin 16) (r : Fin 512) (d : Fin 128), y = ix4 z h r d := ⟨_, _, _, _, eq_ix4 y⟩
  rw [after1_8, out1_8_eq]
  have ht : t.val < 4 := t.isLt
  have e : (win1_8.blk t).view.emb (ix4 z h r d) = ix4 (bat1 t) h (row1 t r) d := by
    unfold bat1 row1
    blk_ext [idx1_8]
  blk_simp
  rw [e]
  exact valBlk_vOnes _ _ _ _ _ _ _ _ _ _ (proj1_v m ρ c t r)

end Cert.KV

end
-- ==== Proof.Reg2.lean ====
/- The attention of one head: what each core of the grid leaves is the weighted sum of the values over the sum of the weights. -/
module

public import proofs.«01_k».proof.Proof.Reg0
public import proofs.«01_k».proof.Proof.Reg1

@[expose] public section

noncomputable section

namespace Cert.KV

open Cert.KernelIdeal Cert.KernelIdeal.Gen Cert.Spec
open Idealize.ShloMosaic Idealize.ShloMosaic.ValueKit
open scoped BigOperators

/-! ## One block -/

/-- A query's weighted sum of the rows of values, at column `e`: over the cached rows, then over the new ones. -/
def wcol (q : Fin 64 → EReal) (k : Fin 4096 → Fin 64 → EReal) (k' : Fin 1024 → Fin 64 → EReal) (v : Fin 4096 → Fin 128 → EReal)
    (v' : Fin 1024 → Fin 128 → EReal) (e : Fin 128) : EReal :=
  ∑ n : Fin 4096, Ideal.exp2 (∑ d : Fin 64, q d * k n d) * v n e + ∑ n : Fin 1024, Ideal.exp2 (∑ d : Fin 64, q d * k' n d) * v' n e

/-- A piece of 256 queries. -/
theorem k2_at (k : FVec Ideal S4096x64 .bf16) (k' : FVec Ideal S1024x64 .bf16) (v : FVec Ideal S4096x128 .bf16)
    (v' : FVec Ideal S1024x128 .bf16) (q : FVec Ideal S1x1x256x64 .bf16) (z z' : Fin 1) (r : Fin 256) (d : Fin 64) :
    k2_pay2 k k' v v' q (ix4 z z' r d)
      = wcol (fun d => q (ix4 0 0 r d)) (fun n d => k (ix2 n d)) (fun n d => k' (ix2 n d)) (fun n d => v (ix2 n d)) (fun n d => v' (ix2 n d))
          ⟨d.val, by omega⟩
        * Ideal.div 1 (wcol (fun d => q (ix4 0 0 r d)) (fun n d => k (ix2 n d)) (fun n d => k' (ix2 n d)) (fun n d => v (ix2 n d))
          (fun n d => v' (ix2 n d)) 64) := by
  unfold k2_pay2
  pointwise
  rfl

variable (x0 : Vec Ideal S1x1x1024x64 .bf16) (x1 : Vec Ideal S1x1x4096x64 .bf16) (x2 : Vec Ideal S1x1x1024x64 .bf16)
  (x3 : Vec Ideal S1x1x4096x128 .bf16) (x4 : Vec Ideal S1x1x1024x128 .bf16)

/-- The cached keys as a matrix. -/
theorem k2_k (n : Fin 4096) (d : Fin 64) : k2_pay12 x0 x1 x2 x3 x4 (ix2 n d) = x1 (ix4 0 0 n d) := by
  unfold k2_pay12 k2_pay3
  pointwise

/-- The new keys as a matrix. -/
theorem k2_k' (n : Fin 1024) (d : Fin 64) : k2_pay13 x0 x1 x2 x3 x4 (ix2 n d) = x2 (ix4 0 0 n d) := by
  unfold k2_pay13 k2_pay4
  pointwise

/-- The cached values as a matrix. -/
theorem k2_v (n : Fin 4096) (d : Fin 128) : k2_pay14 x0 x1 x2 x3 x4 (ix2 n d) = x3 (ix4 0 0 n d) := by
  unfold k2_pay14 k2_pay5
  pointwise

/-- The new values as a matrix. -/
theorem k2_v' (n : Fin 1024) (d : Fin 128) : k2_pay15 x0 x1 x2 x3 x4 (ix2 n d) = x4 (ix4 0 0 n d) := by
  unfold k2_pay15 k2_pay6
  pointwise

/-- The block of one head's attention. -/
def attnBlk (i : S1x1x1024x64.Idx) : EReal :=
  wcol (fun d => x0 (ix4 0 0 (i 2) d)) (fun n d => x1 (ix4 0 0 n d)) (fun n d => x2 (ix4 0 0 n d)) (fun n d => x3 (ix4 0 0 n d))
      (fun n d => x4 (ix4 0 0 n d)) ⟨(i 3).val, have : (i 3).val < 64 := (i 3).isLt; by omega⟩
    * Ideal.div 1 (wcol (fun d => x0 (ix4 0 0 (i 2) d)) (fun n d => x1 (ix4 0 0 n d)) (fun n d => x2 (ix4 0 0 n d))
      (fun n d => x3 (ix4 0 0 n d)) (fun n d => x4 (ix4 0 0 n d)) 64)

/-- The piece stored at row `o` is the block's. -/
theorem attnBlk_piece (o : ℕ) (ho : o + 256 ≤ 1024) (inb : ∀ a, ![0, 0, o, 0] a + S1x1x256x64.size a ≤ S1x1x1024x64.size a)
    (y : S1x1x256x64.Idx) :
    k2_pay2 (k2_pay12 x0 x1 x2 x3 x4) (k2_pay13 x0 x1 x2 x3 x4) (k2_pay14 x0 x1 x2 x3 x4) (k2_pay15 x0 x1 x2 x3 x4)
        (View.ld x0 (Rect.unit (s := S1x1x1024x64) ![0, 0, o, 0] S1x1x256x64.size inb)) y
      = attnBlk x0 x1 x2 x3 x4 ((Rect.unit (s := S1x1x1024x64) ![0, 0, o, 0] S1x1x256x64.size inb).emb y) := by
  obtain ⟨z, z', r, d, rfl⟩ : ∃ (z z' : Fin 1) (r : Fin 256) (d : Fin 64), y = ix4 z z' r d := ⟨_, _, _, _, eq_ix4 y⟩
  have e (d : Fin 64) (z z' : Fin 1) : (Rect.unit (s := S1x1x1024x64) ![0, 0, o, 0] S1x1x256x64.size inb).emb (ix4 z z' r d) = ix4 0 0 ⟨o + r.val, by omega⟩ d := by
    funext a
    refine Fin.ext ((ValueKit.rect_emb_unit_val _ _ _ _ _).trans ?_)
    fin_cases a
    · show 0 + z.val = 0; omega
    · show 0 + z'.val = 0; omega
    · rfl
    · exact Nat.zero_add _
  rw [k2_at, e]
  simp only [k2_k, k2_k', k2_v, k2_v']
  have e' : (fun d => View.ld x0 (Rect.unit (s := S1x1x1024x64) ![0, 0, o, 0] S1x1x256x64.size inb) (ix4 0 0 r d))
      = fun d => x0 (ix4 0 0 ⟨o + r.val, by omega⟩ d) := funext fun d => congrArg x0 (e d 0 0)
  rw [e']
  rfl

/-- The block of one head's attention is what the body leaves. -/
theorem out2_5_eq : out2_5 x0 x1 x2 x3 x4 = attnBlk x0 x1 x2 x3 x4 := by
  funext y
  unfold out2_5
  refine View.canon_apply_of_pieces _ _ ?_ y (cover2_5 _ _ _ _ y)
  have H (o : ℕ) (ho : o + 256 ≤ 1024) (inb) := attnBlk_piece x0 x1 x2 x3 x4 o ho inb
  exact List.forall_mem_cons.2 ⟨H 768 (by decide) inb_S1x1x1024x64_S1x1x256x64_0_0_768_0,
    List.forall_mem_cons.2 ⟨H 512 (by decide) inb_S1x1x1024x64_S1x1x256x64_0_0_512_0,
    List.forall_mem_cons.2 ⟨H 256 (by decide) inb_S1x1x1024x64_S1x1x256x64_0_0_256_0,
    List.forall_mem_cons.2 ⟨H 0 (by decide) inb_S1x1x1024x64_S1x1x256x64_0_0_0_0,
    fun _ h => absurd h List.not_mem_nil⟩⟩⟩⟩

/-! ## The whole array -/

variable (m : (ℓ : Loc nD τ sig) → Buf (Elt Ideal) ℓ) (ρ : Dev nD → PrngReg) (c : Dev nD)

/-- Where the blocks of queries lie. -/
theorem idx2_0 : ∀ t : Fin cfg2.N, win2_0.index t = ![t.val / 16, t.val % 16, 0, 0] := (by decide +kernel : ∀ t : Fin grid2.N, _)
/-- Where the blocks of cached keys lie. -/
theorem idx2_1 : ∀ t : Fin cfg2.N, win2_1.index t = ![t.val / 16, t.val % 16, 0, 0] := (by decide +kernel : ∀ t : Fin grid2.N, _)
/-- Where the blocks of new keys lie. -/
theorem idx2_2 : ∀ t : Fin cfg2.N, win2_2.index t = ![t.val / 16, t.val % 16, 0, 0] := (by decide +kernel : ∀ t : Fin grid2.N, _)
/-- Where the blocks of cached values lie. -/
theorem idx2_3 : ∀ t : Fin cfg2.N, win2_3.index t = ![t.val / 16, t.val % 16, 0, 0] := (by decide +kernel : ∀ t : Fin grid2.N, _)
/-- Where the blocks of new values lie. -/
theorem idx2_4 : ∀ t : Fin cfg2.N, win2_4.index t = ![t.val / 16, t.val % 16, 0, 0] := (by decide +kernel : ∀ t : Fin grid2.N, _)
/-- Where the blocks of attention lie. -/
theorem idx2_5 : ∀ t : Fin cfg2.N, win2_5.index t = ![t.val / 16, t.val % 16, 0, 0] := (by decide +kernel : ∀ t : Fin grid2.N, _)

/-- The batch of a point. -/
def bat2 (t : Fin cfg2.N) : Fin 2 := ⟨t.val / 16, have : t.val < 32 := t.isLt; by omega⟩
/-- The head of a point. -/
def head2 (t : Fin cfg2.N) : Fin 16 := ⟨t.val % 16, by omega⟩

/-- What a region finds in the buffer of queries. -/
theorem V3_q : V3 m ρ c main_v27_0 = fun i : S2x16x1024x64.Idx => qs (argsOf m c) (i 0) (i 2) (i 1) (i 3) :=
  (W3_arr m ρ c 6).trans (q_arr m ρ c)
/-- … of new keys. -/
theorem V3_kn : V3 m ρ c main_v27_1 = fun i : S2x16x1024x64.Idx => kk (argsOf m c) (i 0) (new (i 2)) (i 1) (i 3) :=
  (W3_arr m ρ c 7).trans (kn_arr m ρ c)
/-- … of new values. -/
theorem V3_vn : V3 m ρ c main_v27_2 = fun i : S2x16x1024x128.Idx => vOnes (argsOf m c) (i 0) (new (i 2)) (i 1) (i 3) :=
  (W3_arr m ρ c 8).trans (vn_arr m ρ c)
/-- … of cached keys. -/
theorem V3_kc : V3 m ρ c main_v26_0 = fun i : S2x16x4096x64.Idx => kk (argsOf m c) (i 0) (old (i 2)) (i 1) (i 3) :=
  (W3_of m ρ c main_v26_0 (by decide)).trans ((W2_arr m ρ c 4).trans (kc_arr m ρ c))
/-- … of cached values. -/
theorem V3_vc : V3 m ρ c main_v26_1 = fun i : S2x16x4096x128.Idx => vOnes (argsOf m c) (i 0) (old (i 2)) (i 1) (i 3) :=
  (W3_of m ρ c main_v26_1 (by decide)).trans ((W2_arr m ρ c 5).trans (vc_arr m ρ c))

/-- A block of the queries. -/
theorem blk2_0 (t : Fin cfg2.N) (r : Fin 1024) (d : Fin 64) :
    iblk2 (V3 m ρ) c 0 t (ix4 0 0 r d) = qs (argsOf m c) (bat2 t) r (head2 t) d := by
  have ht : t.val < 32 := t.isLt
  blk_simp [iblk2]
  rw [V3_q, show (win2_0.blk t).view.emb (ix4 0 0 r d) = ix4 (bat2 t) (head2 t) r d by unfold bat2 head2; blk_ext [idx2_0]]
  rfl

/-- A block of the cached keys. -/
theorem blk2_1 (t : Fin cfg2.N) (n : Fin 4096) (d : Fin 64) :
    iblk2 (V3 m ρ) c 1 t (ix4 0 0 n d) = kk (argsOf m c) (bat2 t) (old n) (head2 t) d := by
  have ht : t.val < 32 := t.isLt
  blk_simp [iblk2]
  rw [V3_kc, show (win2_1.blk t).view.emb (ix4 0 0 n d) = ix4 (bat2 t) (head2 t) n d by unfold bat2 head2; blk_ext [idx2_1]]
  rfl

/-- A block of the new keys. -/
theorem blk2_2 (t : Fin cfg2.N) (n : Fin 1024) (d : Fin 64) :
    iblk2 (V3 m ρ) c 2 t (ix4 0 0 n d) = kk (argsOf m c) (bat2 t) (new n) (head2 t) d := by
  have ht : t.val < 32 := t.isLt
  blk_simp [iblk2]
  rw [V3_kn, show (win2_2.blk t).view.emb (ix4 0 0 n d) = ix4 (bat2 t) (head2 t) n d by unfold bat2 head2; blk_ext [idx2_2]]
  rfl

/-- A block of the cached values. -/
theorem blk2_3 (t : Fin cfg2.N) (n : Fin 4096) (d : Fin 128) :
    iblk2 (V3 m ρ) c 3 t (ix4 0 0 n d) = vOnes (argsOf m c) (bat2 t) (old n) (head2 t) d := by
  have ht : t.val < 32 := t.isLt
  blk_simp [iblk2]
  rw [V3_vc, show (win2_3.blk t).view.emb (ix4 0 0 n d) = ix4 (bat2 t) (head2 t) n d by unfold bat2 head2; blk_ext [idx2_3]]
  rfl

/-- A block of the new values. -/
theorem blk2_4 (t : Fin cfg2.N) (n : Fin 1024) (d : Fin 128) :
    iblk2 (V3 m ρ) c 4 t (ix4 0 0 n d) = vOnes (argsOf m c) (bat2 t) (new n) (head2 t) d := by
  have ht : t.val < 32 := t.isLt
  blk_simp [iblk2]
  rw [V3_vn, show (win2_4.blk t).view.emb (ix4 0 0 n d) = ix4 (bat2 t) (head2 t) n d by unfold bat2 head2; blk_ext [idx2_4]]
  rfl

/-- The column beside a head's values is one. -/
theorem vOnes_one (a : Args) (b : Fin 2) (n : Fin 5120) (h : Fin 16) : vOnes a b n h 64 = 1 := by
  unfold vOnes
  rw [dif_neg (by decide), if_pos (by decide)]

/-- A head's values. -/
theorem vOnes_val (a : Args) (b : Fin 2) (n : Fin 5120) (h : Fin 16) (d : Fin 64) (hd : d.val < 128) : vOnes a b n h ⟨d.val, hd⟩ = vv a b n h d := by
  unfold vOnes
  exact dif_pos d.isLt

/-- The block of a head's attention, from the head's queries, keys and values. -/
theorem attnBlk_ctx (a : Args) (b : Fin 2) (h : Fin 16)
    (h0 : ∀ r d, x0 (ix4 0 0 r d) = qs a b r h d) (h1 : ∀ n d, x1 (ix4 0 0 n d) = kk a b (old n) h d)
    (h2 : ∀ n d, x2 (ix4 0 0 n d) = kk a b (new n) h d) (h3 : ∀ n d, x3 (ix4 0 0 n d) = vOnes a b (old n) h d)
    (h4 : ∀ n d, x4 (ix4 0 0 n d) = vOnes a b (new n) h d) (z z' : Fin 1) (r : Fin 1024) (d : Fin 64) :
    attnBlk x0 x1 x2 x3 x4 (ix4 z z' r d) = ctxK a b h r d := by
  have H (e : Fin 128) : wcol (fun d => x0 (ix4 0 0 r d)) (fun n d => x1 (ix4 0 0 n d)) (fun n d => x2 (ix4 0 0 n d))
      (fun n d => x3 (ix4 0 0 n d)) (fun n d => x4 (ix4 0 0 n d)) e = wsum a b h r (fun n => vOnes a b n h e) := by
    simp only [h0, h1, h2, h3, h4]
    rfl
  have hd : d.val < 128 := by omega
  refine (congrArg₂ (fun p q : EReal => p * Ideal.div 1 q) (H ⟨d.val, hd⟩) (H 64)).trans ?_
  unfold ctxK
  simp only [vOnes_one, vOnes_val]

/-- The heads' attention. -/
theorem ctx_arr : (dat2 (V3 m ρ) c).arrAt 5 cfg2.N
    = fun i : S2x16x1024x64.Idx => ctxK (argsOf m c) (i 0) (i 1) (i 2) (i 3) := by
  refine (dat2 (V3 m ρ) c).arrAt_eq_of_covers 5 _ (by decide +kernel) fun t hf y => ?_
  obtain ⟨z, z', r, d, rfl⟩ : ∃ (z z' : Fin 1) (r : Fin 1024) (d : Fin 64), y = ix4 z z' r d := ⟨_, _, _, _, eq_ix4 y⟩
  rw [after2_5, out2_5_eq]
  have ht : t.val < 32 := t.isLt
  have e : (win2_5.blk t).view.emb (ix4 z z' r d) = ix4 (bat2 t) (head2 t) r d := by
    unfold bat2 head2
    blk_ext [idx2_5]
  blk_simp
  rw [e]
  exact attnBlk_ctx _ _ _ _ _ (argsOf m c) (bat2 t) (head2 t) (blk2_0 m ρ c t) (blk2_1 m ρ c t) (blk2_2 m ρ c t) (blk2_3 m ρ c t)
    (blk2_4 m ρ c t) z z' r d

end Cert.KV

end
-- ==== Proof.Reg3.lean ====
/- The output projection: at the points of the first three layers a block of the cache is copied; at the last layer the
   heads' attention is projected back, gated against the newest cached layer, added to the hidden states and normalized. -/
module

public import proofs.«01_k».proof.Proof.Reg2

@[expose] public section

noncomputable section

namespace Cert.KV

open Cert.KernelIdeal Cert.KernelIdeal.Gen Cert.Spec
open Idealize.ShloMosaic Idealize.ShloMosaic.ValueKit
open scoped BigOperators

/-! ## One block -/

/-- Sixteen heads of 64 columns side by side. -/
theorem concat_heads (f : Fin 16 → S512x64.Idx → EReal) (h) (r : Fin 512) (j : Fin 1024) :
    concatenate S512x1024 1 (List.ofFn fun n : Fin 16 => (⟨S512x64, f n⟩ : (s : Shape) × (s.Idx → EReal))) h (ix2 r j)
      = f (headOf j) (ix2 r (within j)) := by
  have hl : (headOf j).val < (List.ofFn fun n : Fin 16 => (⟨S512x64, f n⟩ : (s : Shape) × (s.Idx → EReal))).length := by
    rw [List.length_ofFn]
    exact (headOf j).isLt
  have hx : (List.ofFn fun n : Fin 16 => (⟨S512x64, f n⟩ : (s : Shape) × (s.Idx → EReal)))[(headOf j).val] = ⟨S512x64, f (headOf j)⟩ :=
    List.getElem_ofFn _
  have hs : ((((List.ofFn fun n : Fin 16 => (⟨S512x64, f n⟩ : (s : Shape) × (s.Idx → EReal))).take (headOf j).val).map (·.1)).map
      fun s => if h : s.rank = S512x1024.rank then s.size ((1 : Fin S512x1024.rank).cast h.symm) else 0).sum = 64 * (headOf j).val := by
    rw [List.map_map, List.map_take, List.map_ofFn]
    refine (congrArg (fun l : List ℕ => (l.take (headOf j).val).sum) (?_ : _ = List.replicate 16 64)).trans ?_
    · exact List.ofFn_const 16 64
    · rw [List.take_replicate, List.sum_replicate, smul_eq_mul]
      have := (headOf j).isLt
      omega
  refine concatenate_apply_piece (t := S512x1024) 1 _ h (ix2 r j) (headOf j).val hl S512x64 (f (headOf j)) hx rfl (64 * (headOf j).val) hs
    (ix2 r (within j)) (fun b hb => ?_) ?_
  · fin_cases b
    · rfl
    · exact absurd rfl hb
  · show 64 * (j.val / 64) + j.val % 64 = j.val
    omega

/-- One head of a block. -/
def headPiece (x0 : Vec Ideal S1x16x512x64 .bf16) (n : Fin 16) : S512x64.Idx → EReal :=
  shapeCast S512x64 (View.ld x0 (Rect.unit (s := S1x16x512x64) ![0, n.val, 0, 0] S1x1x512x64.size (inb_k n))) shapeCasts_S1x1x512x64_S512x64

/-- A head's block as a matrix. -/
theorem headCast_at (y : S1x1x512x64.Idx → EReal) (r : Fin 512) (d : Fin 64) :
    shapeCast S512x64 y shapeCasts_S1x1x512x64_S512x64 (ix2 r d) = y (ix4 0 0 r d) := by
  pointwise

/-- One head of a block, at an index. -/
theorem headPiece_at (x0 : Vec Ideal S1x16x512x64 .bf16) (n : Fin 16) (r : Fin 512) (d : Fin 64) :
    headPiece x0 n (ix2 r d) = x0 (ix4 0 n r d) := by
  have e : (Rect.unit (s := S1x16x512x64) ![0, n.val, 0, 0] S1x1x512x64.size (inb_k n)).emb (ix4 0 0 r d) = ix4 0 n r d := by
    funext a
    refine Fin.ext ((ValueKit.rect_emb_unit_val _ _ _ _ _).trans ?_)
    fin_cases a
    · rfl
    · exact Nat.add_zero _
    · exact Nat.zero_add _
    · exact Nat.zero_add _
  exact (headCast_at _ r d).trans (congrArg x0 e)

/-- The heads of a block side by side. -/
def headsBlk (x0 : Vec Ideal S1x16x512x64 .bf16) : FVec Ideal S512x1024 .bf16 :=
  concatenate S512x1024 1 (List.ofFn fun n : Fin 16 => (⟨S512x64, headPiece x0 n⟩ : (s : Shape) × (s.Idx → EReal)))
    concatenates_S512x64_S512x64_S512x64_S512x64_S512x64_S512x64_S512x64_S512x64_S512x64_S512x64_S512x64_S512x64_S512x64_S512x64_S512x64_S512x64_S512x1024_d1

/-- The heads of a block side by side, at an index. -/
theorem headsBlk_at (x0 : Vec Ideal S1x16x512x64 .bf16) (r : Fin 512) (j : Fin 1024) :
    headsBlk x0 (ix2 r j) = x0 (ix4 0 (headOf j) r (within j)) :=
  (concat_heads (headPiece x0) _ r j).trans (headPiece_at x0 (headOf j) r (within j))

/-- A block of heads projected back and gated. -/
def projGate (y : FVec Ideal S512x1024 .bf16) (x3 : FVec Ideal S1024x1024 .bf16) (x4 : Vec Ideal S1x1024 .f32) : FVec Ideal S512x1024 .f32 :=
  mulf (broadcastTo S512x1024 (k3_pay13 x4) broadcasts_S1x1024_S512x1024)
    (matmul dot_S512x1024_S1024x1024_S512x1024_1_0_0_1_n_n none y
      (shapeCast S1024x1024 x3 shapeCasts_S1024x1024_S1024x1024 : FVec Ideal S1024x1024 .bf16) (constant S512x1024 .f32 0x00000000#32))

/-- A block of heads projected back and gated, at an index. -/
theorem projGate_at (y : FVec Ideal S512x1024 .bf16) (x3 : FVec Ideal S1024x1024 .bf16) (x4 : Vec Ideal S1x1024 .f32) (r : Fin 512) (k : Fin 1024) :
    projGate y x3 x4 (ix2 r k) = Ideal.logistic (x4 (ix2 0 k)) * ∑ j : Fin 1024, y (ix2 r j) * x3 (ix2 j k) := by
  unfold projGate k3_pay13
  pointwise

/-- The heads of a block side by side, projected back and gated. -/
def gatedBlk (x0 : Vec Ideal S1x16x512x64 .bf16) (x3 : Vec Ideal S1024x1024 .bf16) (x4 : Vec Ideal S1x1024 .f32) : FVec Ideal S512x1024 .f32 :=
  projGate (headsBlk x0) x3 x4

/-- The same, at an index. -/
theorem gatedBlk_at (x0 : Vec Ideal S1x16x512x64 .bf16) (x3 : Vec Ideal S1024x1024 .bf16) (x4 : Vec Ideal S1x1024 .f32) (r : Fin 512) (k : Fin 1024) :
    gatedBlk x0 x3 x4 (ix2 r k) = Ideal.logistic (x4 (ix2 0 k)) * ∑ j : Fin 1024, x0 (ix4 0 (headOf j) r (within j)) * x3 (ix2 j k) := by
  unfold gatedBlk
  rw [projGate_at]
  simp only [headsBlk_at]

variable (g : FVec Ideal S512x1024 .f32) (x1 : Vec Ideal S1x512x1024 .f32) (x2 : Vec Ideal S1x1x512x1024 .f32) (x4 x5 x6 x7 : Vec Ideal S1x1024 .f32)

/-- The hidden states plus the scaled mixture of the gated projection and the cached layer. -/
def mixAt (r : Fin 512) (k : Fin 1024) : EReal :=
  x1 (ix3 0 r k) + x5 (ix2 0 k) * (g (ix2 r k) + (1 - Ideal.logistic (x4 (ix2 0 k))) * x2 (ix4 0 0 r k))

/-- A block of the mixture, at an index. -/
theorem k3_mix (r : Fin 512) (k : Fin 1024) :
    k3_pay17 g (k3_pay15 x2) (k3_pay16 x4) x1 x5 (ix2 r k)
      = mixAt g x1 x2 x4 x5 r k := by
  unfold k3_pay17 k3_pay15 k3_pay16 k3_pay13
  pointwise
  rfl

/-- The block of the output, at an index. -/
theorem k3_out (z : Fin 1) (r : Fin 512) (k : Fin 1024) :
    k3_pay18 g (k3_pay15 x2) (k3_pay16 x4) x1 x5 (ix3 z r k)
      = mixAt g x1 x2 x4 x5 r k := by
  rw [← k3_mix]
  unfold k3_pay18
  generalize k3_pay17 g (k3_pay15 x2) (k3_pay16 x4) x1 x5 = y
  pointwise

/-- The block of the new cache's last layer, at an index: the output's row normalized. -/
theorem k3_norm (z z' : Fin 1) (r : Fin 512) (k : Fin 1024) :
    k3_pay2 (k3_pay19 g (k3_pay15 x2) (k3_pay16 x4) x1 x5 x6 x7) (ix4 z z' r k)
      = lnRow (mixAt g x1 x2 x4 x5 r)
          (fun k => x6 (ix2 0 k)) (fun k => x7 (ix2 0 k)) k := by
  rw [show mixAt g x1 x2 x4 x5 r = fun k => k3_pay17 g (k3_pay15 x2) (k3_pay16 x4) x1 x5 (ix2 r k) from
    funext fun k => (k3_mix g x1 x2 x4 x5 r k).symm]
  unfold k3_pay2 k3_pay19
  generalize k3_pay17 g (k3_pay15 x2) (k3_pay16 x4) x1 x5 = y
  pointwise
  rfl

/-- A copied block of the cache, at an index. -/
theorem k3_copy (z z' : Fin 1) (r : Fin 512) (k : Fin 1024) : k3_pay1 x2 (ix4 z z' r k) = x2 (ix4 0 0 r k) := by
  rw [Subsingleton.elim z 0, Subsingleton.elim z' 0]
  unfold k3_pay1
  pointwise

/-! ## One point -/

section
variable (V : (c : Dev nD) → (b : Ref sig .tc) → Buf (Elt Ideal) (c.tc.loc b)) (c : Dev nD)

/-- At the first three layers the cache's block is copied. -/
theorem after3_copy (t : Fin cfg3.N) (h : t.val % 4 ≤ 2) : (dat3 V c).after 9 t = k3_pay1 (iblk3 V c 2 t) := by
  rw [after3_9, outsAt3_A V c t h (by omega)]
  dsimp only
  frame_out

/-- At the last layer the output's block is normalized. -/
theorem after3_norm (t : Fin cfg3.N) (h : t.val % 4 = 3) : (dat3 V c).after 9 t
    = k3_pay2 (k3_pay19 (gatedBlk (iblk3 V c 0 t) (iblk3 V c 3 t) (iblk3 V c 4 t)) (k3_pay15 (iblk3 V c 2 t)) (k3_pay16 (iblk3 V c 4 t))
        (iblk3 V c 1 t) (iblk3 V c 5 t) (iblk3 V c 6 t) (iblk3 V c 7 t)) := by
  rw [after3_9, outsAt3_B V c t (by omega) h]
  dsimp only
  frame_out
  refine congrArg (fun g => k3_pay2 (k3_pay19 g (k3_pay15 (iblk3 V c 2 t)) (k3_pay16 (iblk3 V c 4 t))
        (iblk3 V c 1 t) (iblk3 V c 5 t) (iblk3 V c 6 t) (iblk3 V c 7 t))) ?_
  generalize iblk3 V c 0 t = x0
  generalize iblk3 V c 3 t = x3
  generalize iblk3 V c 4 t = x4
  rfl

/-- At the last layer the output's block is stored. -/
theorem after3_out (t : Fin cfg3.N) (h : t.val % 4 = 3) : (dat3 V c).after 8 t
    = k3_pay18 (gatedBlk (iblk3 V c 0 t) (iblk3 V c 3 t) (iblk3 V c 4 t)) (k3_pay15 (iblk3 V c 2 t)) (k3_pay16 (iblk3 V c 4 t))
        (iblk3 V c 1 t) (iblk3 V c 5 t) := by
  rw [after3_8, outsAt3_B V c t (by omega) h]
  dsimp only
  frame_out
  refine congrArg (fun g => k3_pay18 g (k3_pay15 (iblk3 V c 2 t)) (k3_pay16 (iblk3 V c 4 t)) (iblk3 V c 1 t) (iblk3 V c 5 t)) ?_
  generalize iblk3 V c 0 t = x0
  generalize iblk3 V c 3 t = x3
  generalize iblk3 V c 4 t = x4
  rfl

end

/-! ## The whole arrays -/

variable (m : (ℓ : Loc nD τ sig) → Buf (Elt Ideal) ℓ) (ρ : Dev nD → PrngReg) (c : Dev nD)

/-- Where the blocks of attention lie. -/
theorem idx3_0 : ∀ t : Fin cfg3.N, win3_0.index t = ![t.val / 8, 0, t.val / 4 % 2, 0] := (by decide +kernel : ∀ t : Fin grid3.N, _)
/-- Where the blocks of hidden states lie. -/
theorem idx3_1 : ∀ t : Fin cfg3.N, win3_1.index t = ![t.val / 8, t.val / 4 % 2, 0] := (by decide +kernel : ∀ t : Fin grid3.N, _)
/-- Where the blocks of the cache lie: the next layer's, or the last one's. -/
theorem idx3_2 : ∀ t : Fin cfg3.N, win3_2.index t = ![min (t.val % 4 + 1) 3, t.val / 8, t.val / 4 % 2, 0] := (by decide +kernel : ∀ t : Fin grid3.N, _)
/-- The output projection's weights are one block. -/
theorem idx3_3 : ∀ t : Fin cfg3.N, win3_3.index t = ![0, 0] := (by decide +kernel : ∀ t : Fin grid3.N, _)
/-- So is the gate. -/
theorem idx3_4 : ∀ t : Fin cfg3.N, win3_4.index t = ![0, 0] := (by decide +kernel : ∀ t : Fin grid3.N, _)
/-- So is the layer's scale. -/
theorem idx3_5 : ∀ t : Fin cfg3.N, win3_5.index t = ![0, 0] := (by decide +kernel : ∀ t : Fin grid3.N, _)
/-- So are the normalization's scales. -/
theorem idx3_6 : ∀ t : Fin cfg3.N, win3_6.index t = ![0, 0] := (by decide +kernel : ∀ t : Fin grid3.N, _)
/-- So are the normalization's shifts. -/
theorem idx3_7 : ∀ t : Fin cfg3.N, win3_7.index t = ![0, 0] := (by decide +kernel : ∀ t : Fin grid3.N, _)
/-- Where the blocks of output lie. -/
theorem idx3_8 : ∀ t : Fin cfg3.N, win3_8.index t = ![t.val / 8, t.val / 4 % 2, 0] := (by decide +kernel : ∀ t : Fin grid3.N, _)
/-- Where the blocks of the new cache lie. -/
theorem idx3_9 : ∀ t : Fin cfg3.N, win3_9.index t = ![t.val % 4, t.val / 8, t.val / 4 % 2, 0] := (by decide +kernel : ∀ t : Fin grid3.N, _)
/-- The output's block is written back at the last layer only. -/
theorem flush3_8 : ∀ t : Fin cfg3.N, win3_8.flush t = true → t.val % 4 = 3 := (by decide +kernel : ∀ t : Fin grid3.N, _)

/-- The batch of a point. -/
def bat3 (t : Fin cfg3.N) : Fin 2 := ⟨t.val / 8, have : t.val < 16 := t.isLt; by omega⟩
/-- The row of the arrays at a row of a point's block. -/
def row3 (t : Fin cfg3.N) (r : Fin 512) : Fin 1024 := ⟨t.val / 4 % 2 * 512 + r.val, by omega⟩
/-- The layer of a point. -/
def lay3 (t : Fin cfg3.N) : Fin 4 := ⟨t.val % 4, by omega⟩
/-- The cached layer a point reads. -/
def src3 (t : Fin cfg3.N) : Fin 4 := ⟨min (t.val % 4 + 1) 3, by omega⟩

/-- What the region finds in the buffer of attention. -/
theorem V4_ctx : V4 m ρ c main_v28 = fun i : S2x16x1024x64.Idx => ctxK (argsOf m c) (i 0) (i 1) (i 2) (i 3) :=
  (W4_arr m ρ c 5).trans (ctx_arr m ρ c)

/-- A block of the attention. -/
theorem blk3_0 (t : Fin cfg3.N) (h : Fin 16) (r : Fin 512) (d : Fin 64) :
    iblk3 (V4 m ρ) c 0 t (ix4 0 h r d) = ctxK (argsOf m c) (bat3 t) h (row3 t r) d := by
  have ht : t.val < 16 := t.isLt
  blk_simp [iblk3]
  rw [V4_ctx, show (win3_0.blk t).view.emb (ix4 0 h r d) = ix4 (bat3 t) h (row3 t r) d by unfold bat3 row3; blk_ext [idx3_0]]
  rfl

/-- A block of the hidden states. -/
theorem blk3_1 (t : Fin cfg3.N) (r : Fin 512) (k : Fin 1024) :
    iblk3 (V4 m ρ) c 1 t (ix3 0 r k) = (argsOf m c).hid (ix3 (bat3 t) (row3 t r) k) := by
  have ht : t.val < 16 := t.isLt
  blk_simp [iblk3]
  refine (congrFun (W4_args m ρ c main_arg0 (by decide)) _).trans ?_
  show (argsOf m c).hid _ = _
  rw [show (win3_1.blk t).view.emb (ix3 0 r k) = ix3 (bat3 t) (row3 t r) k by unfold bat3 row3; blk_ext [idx3_1]]

/-- A block of the cache. -/
theorem blk3_2 (t : Fin cfg3.N) (r : Fin 512) (k : Fin 1024) :
    iblk3 (V4 m ρ) c 2 t (ix4 0 0 r k) = (argsOf m c).cache (ix4 (src3 t) (bat3 t) (row3 t r) k) := by
  have ht : t.val < 16 := t.isLt
  blk_simp [iblk3]
  refine (congrFun (W4_args m ρ c main_arg1 (by decide)) _).trans ?_
  show (argsOf m c).cache _ = _
  rw [show (win3_2.blk t).view.emb (ix4 0 0 r k) = ix4 (src3 t) (bat3 t) (row3 t r) k by unfold src3 bat3 row3; blk_ext [idx3_2]]

/-- A buffer of the host's that no region writes. -/
theorem V4_host (b : Ref sig .tc) (h4 : ∀ w : Fin cfg2.W, Pipeline.arrRef spec2 w = b → (cfg2.win w).isOut = false)
    (h3 : ∀ w : Fin cfg1.W, Pipeline.arrRef spec1 w = b → (cfg1.win w).isOut = false)
    (h2 : ∀ w : Fin cfg0.W, Pipeline.arrRef spec0 w = b → (cfg0.win w).isOut = false) : V4 m ρ c b = V1 m ρ c b :=
  (W4_of m ρ c b h4).trans ((W3_of m ρ c b h3).trans (W2_of m ρ c b h2))

/-- The output projection's weights. -/
theorem blk3_3 (t : Fin cfg3.N) (j k : Fin 1024) : iblk3 (V4 m ρ) c 3 t (ix2 j k) = (argsOf m c).wo (ix2 j k) := by
  blk_simp [iblk3]
  refine (congrFun (V4_host m ρ c main_v3 (by decide) (by decide) (by decide)) _).trans ?_
  rw [W1_v3, show (win3_3.blk t).view.emb (ix2 j k) = ix2 j k by blk_ext [idx3_3]]

/-- The gate. -/
theorem blk3_4 (t : Fin cfg3.N) (k : Fin 1024) : iblk3 (V4 m ρ) c 4 t (ix2 0 k) = (argsOf m c).gate (ix1 k) := by
  blk_simp [iblk3]
  refine (congrFun (V4_host m ρ c main_v6 (by decide) (by decide) (by decide)) _).trans ?_
  rw [show (win3_4.blk t).view.emb (ix2 0 k) = ix2 0 k by blk_ext [idx3_4], gate_at]

/-- The layer's scale. -/
theorem blk3_5 (t : Fin cfg3.N) (k : Fin 1024) : iblk3 (V4 m ρ) c 5 t (ix2 0 k) = (argsOf m c).ls (ix1 k) := by
  blk_simp [iblk3]
  refine (congrFun (V4_host m ρ c main_v7 (by decide) (by decide) (by decide)) _).trans ?_
  rw [show (win3_5.blk t).view.emb (ix2 0 k) = ix2 0 k by blk_ext [idx3_5], ls_at]

/-- The normalization's scales. -/
theorem blk3_6 (t : Fin cfg3.N) (k : Fin 1024) : iblk3 (V4 m ρ) c 6 t (ix2 0 k) = (argsOf m c).lns (ix1 k) := by
  blk_simp [iblk3]
  refine (congrFun (V4_host m ρ c main_v4 (by decide) (by decide) (by decide)) _).trans ?_
  rw [show (win3_6.blk t).view.emb (ix2 0 k) = ix2 0 k by blk_ext [idx3_6], lns_at]

/-- The normalization's shifts. -/
theorem blk3_7 (t : Fin cfg3.N) (k : Fin 1024) : iblk3 (V4 m ρ) c 7 t (ix2 0 k) = (argsOf m c).lnb (ix1 k) := by
  blk_simp [iblk3]
  refine (congrFun (V4_host m ρ c main_v5 (by decide) (by decide) (by decide)) _).trans ?_
  rw [show (win3_7.blk t).view.emb (ix2 0 k) = ix2 0 k by blk_ext [idx3_7], lnb_at]

/-- The gated projection of a point's heads. -/
theorem gated_blk (t : Fin cfg3.N) (r : Fin 512) (k : Fin 1024) :
    gatedBlk (iblk3 (V4 m ρ) c 0 t) (iblk3 (V4 m ρ) c 3 t) (iblk3 (V4 m ρ) c 4 t) (ix2 r k)
      = gateOf (argsOf m c) k * attn (argsOf m c) (ctxK (argsOf m c) (bat3 t)) (row3 t r) k := by
  rw [gatedBlk_at, blk3_4]
  simp only [blk3_0, blk3_3]
  rfl

/-- The output's row at a point of the last layer. -/
theorem out_blk (t : Fin cfg3.N) (h : t.val % 4 = 3) (r : Fin 512) (k : Fin 1024) :
    mixAt (gatedBlk (iblk3 (V4 m ρ) c 0 t) (iblk3 (V4 m ρ) c 3 t) (iblk3 (V4 m ρ) c 4 t)) (iblk3 (V4 m ρ) c 1 t) (iblk3 (V4 m ρ) c 2 t)
        (iblk3 (V4 m ρ) c 4 t) (iblk3 (V4 m ρ) c 5 t) r k
      = out (argsOf m c) (ctxK (argsOf m c)) (bat3 t) (row3 t r) k := by
  have e : src3 t = 3 := Fin.ext (by show min (t.val % 4 + 1) 3 = 3; omega)
  unfold mixAt
  rw [gated_blk, blk3_1, blk3_2, blk3_4, blk3_5, e]
  rfl

/-- The output. -/
theorem out_arr : (dat3 (V4 m ρ) c).arrAt 8 cfg3.N
    = fun i : S2x1024x1024.Idx => out (argsOf m c) (ctxK (argsOf m c)) (i 0) (i 1) (i 2) := by
  refine (dat3 (V4 m ρ) c).arrAt_eq_of_covers 8 _ (by decide +kernel) fun t hf y => ?_
  obtain ⟨z, r, k, rfl⟩ : ∃ (z : Fin 1) (r : Fin 512) (k : Fin 1024), y = ix3 z r k := ⟨_, _, _, eq_ix3 y⟩
  have h : t.val % 4 = 3 := flush3_8 t hf
  have ht : t.val < 16 := t.isLt
  rw [after3_out _ _ _ h]
  have e : (win3_8.blk t).view.emb (ix3 z r k) = ix3 (bat3 t) (row3 t r) k := by
    unfold bat3 row3
    blk_ext [idx3_8]
  blk_simp
  rw [e]
  exact (k3_out _ _ _ _ _ z r k).trans (out_blk m ρ c t h r k)

/-- The new cache. -/
theorem nc_arr : (dat3 (V4 m ρ) c).arrAt 9 cfg3.N
    = fun i : S4x2x1024x1024.Idx => newCache (argsOf m c) (ctxK (argsOf m c)) (i 0) (i 1) (i 2) (i 3) := by
  refine (dat3 (V4 m ρ) c).arrAt_eq_of_covers 9 _ (by decide +kernel) fun t hf y => ?_
  obtain ⟨z, z', r, k, rfl⟩ : ∃ (z z' : Fin 1) (r : Fin 512) (k : Fin 1024), y = ix4 z z' r k := ⟨_, _, _, _, eq_ix4 y⟩
  have ht : t.val < 16 := t.isLt
  have e : (win3_9.blk t).view.emb (ix4 z z' r k) = ix4 (lay3 t) (bat3 t) (row3 t r) k := by
    unfold lay3 bat3 row3
    blk_ext [idx3_9]
  by_cases h : t.val % 4 ≤ 2
  · rw [after3_copy _ _ _ h]
    blk_simp
    rw [e]
    refine (k3_copy _ z z' r k).trans ((blk3_2 m ρ c t r k).trans ?_)
    show _ = newCache (argsOf m c) (ctxK (argsOf m c)) (lay3 t) (bat3 t) (row3 t r) k
    unfold newCache
    rw [dif_pos (show (lay3 t).val < 3 by show t.val % 4 < 3; omega)]
    have es : src3 t = ⟨(lay3 t).val + 1, by show t.val % 4 + 1 < 4; omega⟩ :=
      Fin.ext (by show min (t.val % 4 + 1) 3 = t.val % 4 + 1; omega)
    rw [es]
  · have h3 : t.val % 4 = 3 := by omega
    rw [after3_norm _ _ _ h3]
    blk_simp
    rw [e]
    refine (k3_norm _ _ _ _ _ _ _ z z' r k).trans ?_
    rw [show mixAt _ _ _ _ _ r = out (argsOf m c) (ctxK (argsOf m c)) (bat3 t) (row3 t r) from funext (out_blk m ρ c t h3 r)]
    simp only [blk3_6, blk3_7]
    show _ = newCache (argsOf m c) (ctxK (argsOf m c)) (lay3 t) (bat3 t) (row3 t r) k
    unfold newCache
    rw [dif_neg (show ¬ (lay3 t).val < 3 by show ¬ t.val % 4 < 3; omega)]

end Cert.KV

end
-- ==== Proof.Run.lean ====
/- The run of the idealized kernel read at every buffer that outlives it: each ends at the last boundary of the launch's
   fold (`W5`), the two results and the ten arguments among them. The launch's set-up follows the generated frame's. -/
module

public import proofs.«01_k».proof.Proof.Gen.KernelIdeal.Frame

@[expose] public section

set_option maxRecDepth 16384

noncomputable section

namespace Cert.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the kernel from zero counters ends, and every buffer that outlives it holds what the last
    boundary of the launch's fold says. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The same read at the two results and the ten arguments: the results at the last boundary, the arguments as launched. -/
theorem run : θ_run defs (onTc (τ := τ) (main (F := F))) ⟨m, fun _ => 0, ρ⟩ (fun r => ∀ c : Dev nD,
      r.2.mem ((c.tc : Thread nD τ).loc main_v29_0) = W5 m ρ c (Proc.devRef .tc main_v29_0)
      ∧ r.2.mem ((c.tc : Thread nD τ).loc main_v29_1) = W5 m ρ c (Proc.devRef .tc main_v29_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨h c _ (mem_uc main_v29_0 (by decide)), h c _ (mem_uc main_v29_1 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c)⟩) (run_all m ρ)

end Cert.KV

end
-- ==== Proof.Ref.lean ====
/- The reference, read one index at a time: each stage of its run is the function of the arguments that `Cert.Spec` gives. -/
module

public import proofs.«01_k».proof.Proof.Gen.ReferenceIdeal.Read
public import proofs.«01_k».proof.Proof.Softmax
public import Idealize.ShloMosaic.Lib.Pointwise
public import Idealize.ShloMosaic.Lib.KernelVsHost

@[expose] public section

noncomputable section

namespace Cert.RefV

open Cert.ReferenceIdeal Cert.ReferenceIdeal.Gen Cert.ReferenceIdeal.Read Cert.Spec
open Idealize.ShloMosaic
open scoped BigOperators

/-! ## Reading a buffer by its coordinates -/

section Coordinates
variable {α : Type}

/-- A vector as a function of its coordinate. -/
def c1 {n : ℕ} (F : (⟨1, ![n]⟩ : Shape).Idx → α) (p : Fin n) : α := F (ix1 p)
/-- A matrix as a function of its coordinates. -/
def c2 {n m : ℕ} (F : (⟨2, ![n, m]⟩ : Shape).Idx → α) (p : Fin n) (q : Fin m) : α := F (ix2 p q)
/-- A rank-3 buffer as a function of its coordinates. -/
def c3 {n m l : ℕ} (F : (⟨3, ![n, m, l]⟩ : Shape).Idx → α) (p : Fin n) (q : Fin m) (r : Fin l) : α := F (ix3 p q r)
/-- A rank-4 buffer as a function of its coordinates. -/
def c4 {n m l k : ℕ} (F : (⟨4, ![n, m, l, k]⟩ : Shape).Idx → α) (p : Fin n) (q : Fin m) (r : Fin l) (s : Fin k) : α :=
  F (ix4 p q r s)

/-- A function of an index is one of its coordinates: one of them, -/
theorem eta1 {n : ℕ} (F : (⟨1, ![n]⟩ : Shape).Idx → α) (i) : F i = c1 F (i 0) := congrArg F (eq_ix1 i)
/-- two, -/
theorem eta2 {n m : ℕ} (F : (⟨2, ![n, m]⟩ : Shape).Idx → α) (i) : F i = c2 F (i 0) (i 1) := congrArg F (eq_ix2 i)
/-- three, -/
theorem eta3 {n m l : ℕ} (F : (⟨3, ![n, m, l]⟩ : Shape).Idx → α) (i) : F i = c3 F (i 0) (i 1) (i 2) := congrArg F (eq_ix3 i)
/-- four. -/
theorem eta4 {n m l k : ℕ} (F : (⟨4, ![n, m, l, k]⟩ : Shape).Idx → α) (i) : F i = c4 F (i 0) (i 1) (i 2) (i 3) :=
  congrArg F (eq_ix4 i)

/-- Two halves of 32 columns side by side. -/
theorem concat_halves {N : ℕ} (x y : (⟨4, ![2, N, 16, 32]⟩ : Shape).Idx → α)
    (h : Shape.Concatenates [⟨4, ![2, N, 16, 32]⟩, ⟨4, ![2, N, 16, 32]⟩] ⟨4, ![2, N, 16, 64]⟩ 3)
    (p : Fin 2) (q : Fin N) (r : Fin 16) (d : Fin 64) :
    concatenate ⟨4, ![2, N, 16, 64]⟩ 3 [⟨⟨4, ![2, N, 16, 32]⟩, x⟩, ⟨⟨4, ![2, N, 16, 32]⟩, y⟩] h (ix4 p q r d)
      = if d.val < 32 then x (ix4 p q r (half d)) else y (ix4 p q r (half d)) := by
  split
  · next hd =>
    refine concatenate_pair_apply_left 3 x y h _ rfl _ fun b => ?_
    fin_cases b
    · rfl
    · rfl
    · rfl
    · exact Nat.mod_eq_of_lt hd
  · next hd =>
    refine concatenate_pair_apply_right 3 x y h _ rfl rfl _ (fun b hb => ?_) ?_
    · fin_cases b
      · rfl
      · rfl
      · rfl
      · exact absurd rfl hb
    · show d.val % 32 + 32 = d.val
      omega

end Coordinates

variable (a : Args)

/-! ## The rows attended to -/

/-- The normalized hidden states. -/
theorem v23_at (i : S2x1024x1024.Idx) : val_main_v23 (F := Ideal) a.hid a.lns a.lnb i = normed a (i 0) (i 1) (i 2) := by
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply, val_main_cst_2_apply, val_main_cst_3_apply,
    Ideal.ofBits_def, Ideal.ofBits_zero_f32, zero_add, eta3 a.hid, eta1 a.lns, eta1 a.lnb]
  rfl

/-- The cached layers, as rows of one buffer. -/
theorem v25_at (b : Fin 2) (n : Fin 4096) (k : Fin 1024) : val_main_v25 (F := Ideal) a.cache (ix3 b n k)
    = cacheRow a b ⟨n.val / 1024, by omega⟩ ⟨n.val % 1024, by omega⟩ k := by
  rw [val_main_v25_apply, val_main_v24_apply, eta4 a.cache]
  show c4 _ _ _ _ _ = c4 _ _ _ _ _
  have h0 := b.isLt
  have h1 := n.isLt
  have h2 := k.isLt
  congr 1
  · exact Fin.ext (show ((b.val * 4096 + n.val) * 1024 + k.val) / 1048576 % 4 = n.val / 1024 by omega)
  · exact Fin.ext (show ((b.val * 4096 + n.val) * 1024 + k.val) / 4194304 = b.val by omega)
  · exact Fin.ext (show ((b.val * 4096 + n.val) * 1024 + k.val) / 1024 % 1024 = n.val % 1024 by omega)
  · exact Fin.ext (show ((b.val * 4096 + n.val) * 1024 + k.val) % 1024 = k.val by omega)

/-- The rows attended to. -/
theorem v26_at (i : S2x5120x1024.Idx) :
    val_main_v26 (F := Ideal) a.hid a.cache a.lns a.lnb i = kvRow a (i 0) (i 1) (i 2) := by
  obtain ⟨b, n, k, rfl⟩ : ∃ (b : Fin 2) (n : Fin 5120) (k : Fin 1024), i = ix3 b n k := ⟨_, _, _, eq_ix3 i⟩
  show _ = kvRow a b n k
  unfold kvRow val_main_v26
  split
  · next h =>
    rw [← v25_at a b ⟨n.val, h⟩ k]
    refine concatenate_pair_apply_left (s₁ := S2x4096x1024) (s₂ := S2x1024x1024) (t := S2x5120x1024) 1 _ _ _ _ rfl _ fun c => ?_
    fin_cases c <;> rfl
  · next h =>
    refine (concatenate_pair_apply_right (s₁ := S2x4096x1024) (s₂ := S2x1024x1024) (t := S2x5120x1024) 1 _ _ _ _ rfl rfl (ix3 b ⟨n.val - 4096, by omega⟩ k) (fun c hc => ?_) ?_).trans (v23_at a _)
    · fin_cases c
      · rfl
      · exact absurd rfl hc
      · rfl
    · show n.val - 4096 + 4096 = n.val
      omega

/-! ## The three projections, by heads -/

/-- The projected queries. -/
theorem v28_at (b : Fin 2) (i : Fin 1024) (h : Fin 16) (d : Fin 64) :
    val_main_v28 (F := Ideal) a.hid a.lns a.lnb a.wq (ix4 b i h d) = proj a.wq (normed a b i) (col h d) := by
  rw [val_main_v28_apply]
  have e : idx_main_v28 (ix4 b i h d) = ix3 b i (col h d) := by
    rw [eq_ix3 (idx_main_v28 (ix4 b i h d))]
    congr 1
    · exact Fin.ext (show (((b.val * 1024 + i.val) * 16 + h.val) * 64 + d.val) / 1048576 = b.val by omega)
    · exact Fin.ext (show (((b.val * 1024 + i.val) * 16 + h.val) * 64 + d.val) / 1024 % 1024 = i.val by omega)
    · exact Fin.ext (show (((b.val * 1024 + i.val) * 16 + h.val) * 64 + d.val) % 1024 = 64 * h.val + d.val by omega)
  rw [e, val_main_v27_apply]
  simp only [v23_at, eta2 a.wq]
  rfl

/-- Where a row of 5120 by heads is read before the split. -/
theorem split_idx (b : Fin 2) (n : Fin 5120) (h : Fin 16) (d : Fin 64) : idx_main_v30 (ix4 b n h d) = ix3 b n (col h d) := by
  rw [eq_ix3 (idx_main_v30 (ix4 b n h d))]
  congr 1
  · exact Fin.ext (show (((b.val * 5120 + n.val) * 16 + h.val) * 64 + d.val) / 5242880 = b.val by omega)
  · exact Fin.ext (show (((b.val * 5120 + n.val) * 16 + h.val) * 64 + d.val) / 1024 % 5120 = n.val by omega)
  · exact Fin.ext (show (((b.val * 5120 + n.val) * 16 + h.val) * 64 + d.val) % 1024 = 64 * h.val + d.val by omega)

/-- The projected keys. -/
theorem v30_at (b : Fin 2) (n : Fin 5120) (h : Fin 16) (d : Fin 64) :
    val_main_v30 (F := Ideal) a.hid a.cache a.lns a.lnb a.wk (ix4 b n h d) = proj a.wk (kvRow a b n) (col h d) := by
  rw [val_main_v30_apply, split_idx, val_main_v29_apply]
  simp only [v26_at, eta2 a.wk]
  rfl

/-- The values. -/
theorem v32_at (b : Fin 2) (n : Fin 5120) (h : Fin 16) (d : Fin 64) :
    val_main_v32 (F := Ideal) a.hid a.cache a.lns a.lnb a.wv (ix4 b n h d) = vv a b n h d := by
  rw [val_main_v32_apply]
  show val_main_v31 (F := Ideal) a.hid a.cache a.lns a.lnb a.wv (idx_main_v30 _) = _
  rw [split_idx, val_main_v31_apply]
  simp only [v26_at, eta2 a.wv]
  rfl

/-! ## The rotations -/

/-- The queries' angles. -/
theorem v50_at (i : S1024x32.Idx) : val_main_v50 (F := Ideal) i = ang (i 0) (i 1) := by
  simp only [val_main_v50_apply, val_main_v49_apply, val_main_v48_apply, val_main_v47_apply, val_main_v46_apply, val_main_v45_apply,
    val_main_v44_apply, val_main_v43_apply, val_main_v42_apply, val_main_v41_apply, val_main_v40_apply, val_main_v39_apply,
    val_main_v33_apply, val_main_cst_4_apply, val_main_cst_5_apply, val_main_cst_6_apply, Ideal.ofBits_def, Ideal.ofBits_one_f32]
  rfl

/-- The keys' angles. -/
theorem v80_at (n : Fin 5120) (j : Fin 32) : val_main_v80 (F := Ideal) (ix2 n j) = ang (pos n) j := by
  simp only [val_main_v80_apply, val_main_v79_apply, val_main_v78_apply, val_main_v77_apply, val_main_v76_apply, val_main_v75_apply,
    val_main_v74_apply, val_main_v73_apply, val_main_v72_apply, val_main_v71_apply, val_main_v70_apply, val_main_v69_apply,
    val_main_v37_apply, val_main_v36_apply, val_main_v35_apply, val_main_v34_apply,
    val_main_cst_7_apply, val_main_cst_8_apply, val_main_cst_9_apply, Ideal.ofBits_def, Ideal.ofBits_one_f32]
  unfold ang ofInt
  refine congrArg₂ (fun p q => FloatOps.mulf (F := Ideal) (φ := .f32) (FloatOps.sitofp .f32 (BitVec.ofNat 32 p)) q) (?_ : _ = n.val % 1024) rfl
  show 0 * 1024 + n.val % 1024 = n.val % 1024
  omega

/-- The keys' angles, at any index. -/
theorem v80_i (i : S5120x32.Idx) : val_main_v80 (F := Ideal) i = ang (pos (i 0)) (i 1) :=
  (congrArg _ (eq_ix2 i)).trans (v80_at _ _)

/-- A column of the first half of a rotated head. -/
theorem rope_lo (f : Fin 1024 → EReal) (p : Fin 1024) (h : Fin 16) (d : Fin 64) (hd : d.val < 32) :
    rope f p h d = f (col h ⟨(half d).val, by omega⟩) * cosT p (half d)
      - f (col h ⟨32 + (half d).val, by have := (half d).isLt; omega⟩) * sinT p (half d) := by
  have e1 : (⟨(half d).val, by omega⟩ : Fin 64) = d := Fin.ext (Nat.mod_eq_of_lt hd)
  have e2 : (⟨32 + (half d).val, by have := (half d).isLt; omega⟩ : Fin 64) = swap d :=
    Fin.ext (show 32 + d.val % 32 = (d.val + 32) % 64 by omega)
  rw [e1, e2, rope, if_pos hd]

/-- A column of the second half of a rotated head. -/
theorem rope_hi (f : Fin 1024 → EReal) (p : Fin 1024) (h : Fin 16) (d : Fin 64) (hd : ¬ d.val < 32) :
    rope f p h d = f (col h ⟨(half d).val, by omega⟩) * sinT p (half d)
      + f (col h ⟨32 + (half d).val, by have := (half d).isLt; omega⟩) * cosT p (half d) := by
  have e1 : (⟨(half d).val, by omega⟩ : Fin 64) = swap d := Fin.ext (show d.val % 32 = (d.val + 32) % 64 by omega)
  have e2 : (⟨32 + (half d).val, by have := (half d).isLt; omega⟩ : Fin 64) = d := Fin.ext (show 32 + d.val % 32 = d.val by omega)
  rw [e1, e2, rope, if_neg hd]

/-- The queries. -/
theorem v67_at (b : Fin 2) (i : Fin 1024) (h : Fin 16) (d : Fin 64) :
    val_main_v67 (F := Ideal) a.hid a.lns a.lnb a.wq (ix4 b i h d) = qq a b i h d := by
  unfold val_main_v67 qq
  refine (concat_halves _ _ _ b i h d).trans ?_
  split
  · next hd =>
    rw [rope_lo _ _ _ _ hd, ← v28_at, ← v28_at]
    simp only [val_main_v61_apply, val_main_v60_apply, val_main_v59_apply, val_main_v58_apply, val_main_v57_apply, val_main_v56_apply,
      val_main_v55_apply, val_main_v54_apply, val_main_v53_apply, val_main_v52_apply, val_main_v51_apply, v50_at,
      eta4 (val_main_v28 (F := Ideal) a.hid a.lns a.lnb a.wq)]
    generalize val_main_v28 (F := Ideal) a.hid a.lns a.lnb a.wq = y
    rfl
  · next hd =>
    rw [rope_hi _ _ _ _ hd, ← v28_at, ← v28_at]
    simp only [val_main_v66_apply, val_main_v65_apply, val_main_v64_apply, val_main_v63_apply, val_main_v62_apply, val_main_v56_apply,
      val_main_v55_apply, val_main_v54_apply, val_main_v53_apply, val_main_v52_apply, val_main_v51_apply, v50_at,
      eta4 (val_main_v28 (F := Ideal) a.hid a.lns a.lnb a.wq)]
    generalize val_main_v28 (F := Ideal) a.hid a.lns a.lnb a.wq = y
    rfl

/-- The queries, at any index. -/
theorem v67_i (i : S2x1024x16x64.Idx) : val_main_v67 (F := Ideal) a.hid a.lns a.lnb a.wq i = qq a (i 0) (i 1) (i 2) (i 3) :=
  (congrArg _ (eq_ix4 i)).trans (v67_at a _ _ _ _)

end Cert.RefV

end
-- ==== Proof.RefAttn.lean ====
/- The reference, read one index at a time: the keys and the attention. -/
module

public import proofs.«01_k».proof.Proof.Ref
public import Idealize.ShloMosaic.Lib.KernelVsHost

@[expose] public section

noncomputable section

namespace Cert.RefV

open Cert.ReferenceIdeal Cert.ReferenceIdeal.Gen Cert.ReferenceIdeal.Read Cert.Spec
open Idealize.ShloMosaic
open scoped BigOperators

variable (a : Args)

/-- Where a half of a head's columns is placed: the tables' index. -/
theorem table_idx (b : Fin 2) (n : Fin 5120) (h : Fin 16) (j : Fin 32) : idx_main_v82 (idx_main_v87 (ix4 b n h j)) = ix2 n j := by
  rw [eq_ix2 (idx_main_v82 (idx_main_v87 (ix4 b n h j)))]
  rfl

/-- The keys' cosines. -/
theorem v81_at (n : Fin 5120) (j : Fin 32) : val_main_v81 (F := Ideal) (ix2 n j) = cosT (pos n) j := by
  rw [val_main_v81_apply, v80_at]
  rfl

/-- The keys' sines. -/
theorem v83_at (n : Fin 5120) (j : Fin 32) : val_main_v83 (F := Ideal) (ix2 n j) = sinT (pos n) j := by
  rw [val_main_v83_apply, v80_at]
  rfl

/-- The cosines the keys' first halves are multiplied by, -/
theorem v87_at (b : Fin 2) (n : Fin 5120) (h : Fin 16) (j : Fin 32) : val_main_v87 (F := Ideal) (ix4 b n h j) = cosT (pos n) j :=
  (val_main_v87_apply _).trans ((val_main_v82_apply _).trans ((congrArg _ (table_idx b n h j)).trans (v81_at n j)))
/-- and their second halves. -/
theorem v94_at (b : Fin 2) (n : Fin 5120) (h : Fin 16) (j : Fin 32) : val_main_v94 (F := Ideal) (ix4 b n h j) = cosT (pos n) j :=
  (val_main_v94_apply _).trans ((val_main_v82_apply _).trans ((congrArg _ (table_idx b n h j)).trans (v81_at n j)))
/-- The sines the keys' second halves are multiplied by, -/
theorem v89_at (b : Fin 2) (n : Fin 5120) (h : Fin 16) (j : Fin 32) : val_main_v89 (F := Ideal) (ix4 b n h j) = sinT (pos n) j :=
  (val_main_v89_apply _).trans ((val_main_v84_apply _).trans ((congrArg _ (table_idx b n h j)).trans (v83_at n j)))
/-- and their first halves. -/
theorem v92_at (b : Fin 2) (n : Fin 5120) (h : Fin 16) (j : Fin 32) : val_main_v92 (F := Ideal) (ix4 b n h j) = sinT (pos n) j :=
  (val_main_v92_apply _).trans ((val_main_v84_apply _).trans ((congrArg _ (table_idx b n h j)).trans (v83_at n j)))

/-- The first half of a head's columns. -/
theorem v85_at (b : Fin 2) (n : Fin 5120) (h : Fin 16) (j : Fin 32) :
    val_main_v85 (F := Ideal) a.hid a.cache a.lns a.lnb a.wk (ix4 b n h j) = proj a.wk (kvRow a b n) (col h ⟨j.val, by omega⟩) := by
  rw [val_main_v85_apply, eq_ix4 (idx_main_v85 (ix4 b n h j))]
  exact v30_at a b n h ⟨j.val, by omega⟩

/-- The second half of a head's columns. -/
theorem v86_at (b : Fin 2) (n : Fin 5120) (h : Fin 16) (j : Fin 32) :
    val_main_v86 (F := Ideal) a.hid a.cache a.lns a.lnb a.wk (ix4 b n h j)
      = proj a.wk (kvRow a b n) (col h ⟨32 + j.val, by omega⟩) := by
  rw [val_main_v86_apply, eq_ix4 (idx_main_v86 (ix4 b n h j))]
  exact v30_at a b n h ⟨32 + j.val, by omega⟩

/-- The keys. -/
theorem v97_at (b : Fin 2) (n : Fin 5120) (h : Fin 16) (d : Fin 64) :
    val_main_v97 (F := Ideal) a.hid a.cache a.lns a.lnb a.wk (ix4 b n h d) = kk a b n h d := by
  unfold val_main_v97 kk
  refine (concat_halves _ _ _ b n h d).trans ?_
  split
  · next hd =>
    rw [rope_lo _ _ _ _ hd, val_main_v91_apply, val_main_v90_apply, val_main_v88_apply, v85_at, v86_at, v87_at, v89_at]
    rfl
  · next hd =>
    rw [rope_hi _ _ _ _ hd, val_main_v96_apply, val_main_v95_apply, val_main_v93_apply, v85_at, v86_at, v92_at, v94_at]
    rfl

/-- The keys, at any index. -/
theorem v97_i (i : S2x5120x16x64.Idx) : val_main_v97 (F := Ideal) a.hid a.cache a.lns a.lnb a.wk i = kk a (i 0) (i 1) (i 2) (i 3) :=
  (congrArg _ (eq_ix4 i)).trans (v97_at a _ _ _ _)

/-- The values, at any index. -/
theorem v32_i (i : S2x5120x16x64.Idx) : val_main_v32 (F := Ideal) a.hid a.cache a.lns a.lnb a.wv i = vv a (i 0) (i 1) (i 2) (i 3) :=
  (congrArg _ (eq_ix4 i)).trans (v32_at a _ _ _ _)

/-! ## The attention -/

/-- The scores. -/
theorem v102_at (b : Fin 2) (h : Fin 16) (i : Fin 1024) (n : Fin 5120) :
    val_main_v102 (F := Ideal) a.hid a.cache a.lns a.lnb a.wq a.wk (ix4 b h i n) = sc a b h i n := by
  simp only [val_main_v102_apply, val_main_v101_apply, val_main_v100_apply, val_main_v99_apply, val_main_v98_apply,
    val_main_cst_10_apply, val_main_cst_11_apply, Ideal.ofBits_def, Ideal.ofBits_one_f32,
    v67_i, v97_i]
  rfl

/-- The scores, at any index. -/
theorem v102_i (i : S2x16x1024x5120.Idx) : val_main_v102 (F := Ideal) a.hid a.cache a.lns a.lnb a.wq a.wk i = sc a (i 0) (i 1) (i 2) (i 3) :=
  (congrArg _ (eq_ix4 i)).trans (v102_at a _ _ _ _)

/-- What the scores are shifted by. -/
def shift (b : Fin 2) (h : Fin 16) (i : Fin 1024) : EReal :=
  val_main_v105 (F := Ideal) a.hid a.cache a.lns a.lnb a.wq a.wk (ix3 b h i)

/-- The shift is a finite number when the arguments are. -/
theorem shift_isR (ha : a.Finite) (b : Fin 2) (h : Fin 16) (i : Fin 1024) : IsR (shift a b h i) := by
  have e : val_main_v103 (F := Ideal) a.hid a.cache a.lns a.lnb a.wq a.wk (ix3 b h i)
      = Finset.univ.fold max ⊥ (sc a b h i) := by
    unfold val_main_v103 val_main_cst_12
    have hr : S2x16x1024x5120.Reduces [3] S2x16x1024 := by decide
    have hφ : FKind.Formats FTy.f32 := by decide
    refine (congrFun (hostReduce_maximumf_eq_multiReduction (F := Ideal) (φ := .f32) _ _ _ _ hr hφ rfl) _).trans
      ((Ideal.multiReduction_maximumf_single (φ := .f32) _ _ hr hφ rfl (ix3 b h i)).trans ?_)
    show Finset.fold max (Ideal.ofBits .f32 0xFF800000#32) _ _ = _
    rw [ofBits_ninf]
    refine congrArg (fun f => Finset.fold max ⊥ f Finset.univ) (funext fun n => ?_)
    refine (congrArg (val_main_v102 (F := Ideal) a.hid a.cache a.lns a.lnb a.wq a.wk)
      (?_ : hr.lift (ix3 b h i) n = ix4 b h i n)).trans (v102_at a b h i n)
    refine funext fun c => ?_
    fin_cases c <;> rfl
  unfold shift
  rw [val_main_v105_apply, val_main_v104_apply, val_main_cst_13_apply, e]
  show IsR (max (Ideal.ofBits .f32 0xFF800000#32) _)
  rw [ofBits_ninf, max_eq_right bot_le]
  exact fold_max_isR fun n => sc_isR ha b h i n

/-- The heads' attention. -/
theorem v114_at (b : Fin 2) (h : Fin 16) (d : Fin 64) (i : Fin 1024) :
    val_main_v114 (F := Ideal) a.hid a.cache a.lns a.lnb a.wq a.wk a.wv (ix4 b h d i) = ctxR a (shift a b h i) b h i d := by
  simp only [val_main_v114_apply, val_main_v113_apply, val_main_v112_apply, val_main_v111_apply, val_main_v110_apply,
    val_main_v109_apply, val_main_v108_apply, val_main_v107_apply, val_main_v106_apply, val_main_cst_14_apply,
    Ideal.ofBits_def, Ideal.ofBits_zero_f32, zero_add, v32_i, v102_i,
    eta3 (val_main_v105 (F := Ideal) a.hid a.cache a.lns a.lnb a.wq a.wk)]
  unfold shift
  generalize val_main_v105 (F := Ideal) a.hid a.cache a.lns a.lnb a.wq a.wk = y
  rfl

end Cert.RefV

end
-- ==== Proof.RefOut.lean ====
/- The reference, read one index at a time: the results. -/
module

public import proofs.«01_k».proof.Proof.RefAttn

@[expose] public section

noncomputable section

namespace Cert.RefV

open Cert.ReferenceIdeal Cert.ReferenceIdeal.Gen Cert.ReferenceIdeal.Read Cert.Spec
open Idealize.ShloMosaic
open scoped BigOperators

variable (a : Args)

/-! ## The results -/

/-- The heads' attention as the reference has it. -/
def ctx (b : Fin 2) (h : Fin 16) (i : Fin 1024) (d : Fin 64) : EReal := ctxR a (shift a b h i) b h i d

/-- The heads' attention, side by side. -/
theorem v116_at (b : Fin 2) (i j : Fin 1024) :
    val_main_v116 (F := Ideal) a.hid a.cache a.lns a.lnb a.wq a.wk a.wv (ix3 b i j) = ctx a b (headOf j) i (within j) := by
  rw [val_main_v116_apply, val_main_v115_apply, eta4 (val_main_v114 (F := Ideal) a.hid a.cache a.lns a.lnb a.wq a.wk a.wv)]
  refine Eq.trans ?_ (v114_at a b (headOf j) (within j) i)
  show c4 _ _ _ _ _ = c4 _ _ _ _ _
  congr 1
  · exact Fin.ext (show ((b.val * 1024 + i.val) * 1024 + j.val) / 1048576 = b.val by omega)
  · exact Fin.ext (show ((b.val * 1024 + i.val) * 1024 + j.val) / 64 % 16 = j.val / 64 by omega)
  · exact Fin.ext (show ((b.val * 1024 + i.val) * 1024 + j.val) % 64 = j.val % 64 by omega)
  · exact Fin.ext (show ((b.val * 1024 + i.val) * 1024 + j.val) / 1024 % 1024 = i.val by omega)

/-- The heads side by side, at any index. -/
theorem v116_i (i : S2x1024x1024.Idx) : val_main_v116 (F := Ideal) a.hid a.cache a.lns a.lnb a.wq a.wk a.wv i = ctx a (i 0) (headOf (i 2)) (i 1) (within (i 2)) :=
  (congrArg _ (eq_ix3 i)).trans (v116_at a _ _ _)

/-- The newest cached layer. -/
theorem v119_at (b : Fin 2) (i c : Fin 1024) : val_main_v119 (F := Ideal) a.cache (ix3 b i c) = a.cache (ix4 3 b i c) := by
  rw [val_main_v119_apply, val_main_v118_apply, eta4 a.cache]
  show c4 _ _ _ _ _ = c4 _ _ _ _ _
  congr 1
  · exact Fin.ext (show ((b.val * 1024 + i.val) * 1024 + c.val) / 1048576 % 2 = b.val by omega)
  · exact Fin.ext (show ((b.val * 1024 + i.val) * 1024 + c.val) / 1024 % 1024 = i.val by omega)
  · exact Fin.ext (show ((b.val * 1024 + i.val) * 1024 + c.val) % 1024 = c.val by omega)

/-- The newest cached layer, at any index. -/
theorem v119_i (i : S2x1024x1024.Idx) : val_main_v119 (F := Ideal) a.cache i = a.cache (ix4 3 (i 0) (i 1) (i 2)) :=
  (congrArg _ (eq_ix3 i)).trans (v119_at a _ _ _)

/-- The output. -/
theorem v138_at (i : S2x1024x1024.Idx) :
    val_main_v138 (F := Ideal) a.hid a.cache a.lns a.lnb a.wq a.wk a.wv a.wo a.gate a.ls i = out a (ctx a) (i 0) (i 1) (i 2) := by
  simp only [val_main_v138_apply, val_main_v137_apply, val_main_v136_apply, val_main_v135_apply, val_main_v134_apply, val_main_v133_apply,
    val_main_v132_apply, val_main_v131_apply, val_main_v130_apply, val_main_v129_apply, val_main_v128_apply, val_main_v127_apply,
    val_main_v126_apply, val_main_v125_apply, val_main_v124_apply, val_main_v123_apply, val_main_v122_apply, val_main_v121_apply,
    val_main_v120_apply, val_main_v117_apply, val_main_cst_15_apply, val_main_cst_16_apply, val_main_cst_17_apply,
    Ideal.ofBits_def, Ideal.ofBits_one_f32, v116_i, v119_i, eta2 a.wo, eta1 a.gate, eta1 a.ls, eta3 a.hid]
  rfl

/-- The normalized output. -/
theorem v162_at (i : S2x1024x1024.Idx) :
    val_main_v162 (F := Ideal) a.hid a.cache a.lns a.lnb a.wq a.wk a.wv a.wo a.gate a.ls i
      = lnRow (out a (ctx a) (i 0) (i 1)) (fun k => a.lns (ix1 k)) (fun k => a.lnb (ix1 k)) (i 2) := by
  simp only [val_main_v162_apply, val_main_v161_apply, val_main_v160_apply, val_main_v159_apply, val_main_v158_apply, val_main_v157_apply,
    val_main_v156_apply, val_main_v155_apply, val_main_v154_apply, val_main_v153_apply, val_main_v152_apply, val_main_v151_apply,
    val_main_v150_apply, val_main_v149_apply, val_main_v148_apply, val_main_v147_apply, val_main_v146_apply, val_main_v145_apply,
    val_main_v144_apply, val_main_v143_apply, val_main_v142_apply, val_main_v141_apply, val_main_v140_apply, val_main_v139_apply,
    val_main_cst_18_apply, val_main_cst_19_apply, val_main_cst_20_apply, val_main_cst_21_apply, val_main_cst_22_apply,
    Ideal.ofBits_def, Ideal.ofBits_zero_f32, zero_add, v138_at, eta1 a.lns, eta1 a.lnb]
  rfl

/-- The new cache. -/
theorem v165_at (w : Fin 4) (b : Fin 2) (i c : Fin 1024) :
    val_main_v165 (F := Ideal) a.hid a.cache a.lns a.lnb a.wq a.wk a.wv a.wo a.gate a.ls (ix4 w b i c)
      = newCache a (ctx a) w b i c := by
  unfold newCache val_main_v165
  split
  · next h =>
    refine (concatenate_pair_apply_left (s₁ := S3x2x1024x1024) (s₂ := S1x2x1024x1024) (t := S4x2x1024x1024) 0 _ _ _ _ rfl
      (ix4 ⟨w.val, h⟩ b i c) fun e => ?_).trans ?_
    · fin_cases e <;> rfl
    · rw [val_main_v163_apply, eta4 a.cache]
      show c4 _ _ _ _ _ = c4 _ _ _ _ _
      congr 1
      exact Fin.ext (show 1 + w.val = w.val + 1 by omega)
  · next h =>
    refine (concatenate_pair_apply_right (s₁ := S3x2x1024x1024) (s₂ := S1x2x1024x1024) (t := S4x2x1024x1024) 0 _ _ _ _ rfl rfl
      (ix4 0 b i c) (fun e he => ?_) ?_).trans ?_
    · fin_cases e
      · exact absurd rfl he
      · rfl
      · rfl
      · rfl
    · show 0 + 3 = w.val
      omega
    · rw [val_main_v164_apply]
      exact v162_at a _

end Cert.RefV

end
-- ==== Proof.RefVal.lean ====
/- What a run of the reference leaves in its two results. -/
module

public import proofs.«01_k».proof.Proof.RefOut
public import proofs.«01_k».proof.Proof.RefRun

@[expose] public section

noncomputable section

namespace Cert.RefV

open Cert.ReferenceIdeal Cert.Spec Idealize.ShloMosaic Idealize.SL.Sem

variable (m : (ℓ : Loc nD τ sig) → Buf (Elt Ideal) ℓ) (ρ : Dev nD → PrngReg)

/-- The arguments of the reference's launch on one device. -/
def argsOf (c : Dev nD) : Args where
  hid := m ((c.tc : Thread nD τ).loc main_arg0)
  cache := m ((c.tc : Thread nD τ).loc main_arg1)
  lns := m ((c.tc : Thread nD τ).loc main_arg2)
  lnb := m ((c.tc : Thread nD τ).loc main_arg3)
  wq := m ((c.tc : Thread nD τ).loc main_arg4)
  wk := m ((c.tc : Thread nD τ).loc main_arg5)
  wv := m ((c.tc : Thread nD τ).loc main_arg6)
  wo := m ((c.tc : Thread nD τ).loc main_arg7)
  gate := m ((c.tc : Thread nD τ).loc main_arg8)
  ls := m ((c.tc : Thread nD τ).loc main_arg9)

/-- The output and the new cache of the reference's run, and its arguments as launched. -/
theorem run_vals : θ_run defs (onTc (τ := τ) (main (F := Ideal))) ⟨m, fun _ => 0, ρ⟩ (fun r => ∀ c : Dev nD,
      r.2.mem ((c.tc : Thread nD τ).loc main_v138) = (fun i : S2x1024x1024.Idx => out (argsOf m c) (ctx (argsOf m c)) (i 0) (i 1) (i 2))
      ∧ r.2.mem ((c.tc : Thread nD τ).loc main_v165) = (fun i : S4x2x1024x1024.Idx => newCache (argsOf m c) (ctx (argsOf m c)) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c).1.trans ((Read.val_main_v138_eq _).trans (funext fun i => v138_at (argsOf m c) i)),
     (h c).2.1.trans ((Read.val_main_v165_eq _).trans (funext fun i =>
       (congrArg _ (eq_ix4 i)).trans (v165_at (argsOf m c) (i 0) (i 1) (i 2) (i 3)))),
     (h c).2.2⟩) (Value.run m ρ)

end Cert.RefV

end
-- ==== Proof.Alg.lean ====
/- The kernel's results are the reference's when the arguments that must be finite for the scores to be real are. -/
module

public import proofs.«01_k».proof.Defs
public import proofs.«01_k».proof.Proof.Gen.Pre_finite_inputs
public import proofs.«01_k».proof.Proof.Reg3
public import proofs.«01_k».proof.Proof.Run
public import proofs.«01_k».proof.Proof.RefVal

@[expose] public section

noncomputable section

namespace Cert.Alg

open Cert.Spec Idealize.ShloMosaic Idealize.SL.Sem

/-- An array all of whose elements compare below infinity in absolute value holds reals. -/
theorem real_of_cmp {s : Shape} (x : s.Idx → EReal) (hb : Cert.Pre_finite_inputs.S_.BroadcastsInDim s (![] : Fin 0 → Fin s.rank))
    (h : cmpf (F := Ideal) (φ := .f32) .olt (Host.absf (F := Ideal) (φ := .f32) x)
      (broadcastInDim s ![] hb (constant (F := Ideal) Cert.Pre_finite_inputs.S_ .f32 0x7F800000#32)) = fun _ => 1#1) (j : s.Idx) : IsR (x j) := by
  have h1 : Ideal.cmp .olt (max (x j) (-x j)) (Ideal.ofBits .f32 0x7F800000#32) = 1#1 := congrFun h j
  rw [ofBits_inf] at h1
  refine IsR.of_lt_top ?_
  by_contra hn
  simp [Ideal.cmp, hn] at h1

variable (m : (ℓ : Loc Cert.KernelIdeal.nD Cert.KernelIdeal.τ Cert.KernelIdeal.sig) → Buf (Elt Ideal) ℓ)

/-- The precondition, on one device: the five arrays hold reals. -/
theorem finite (h : Cert.Pre_KernelIdeal_finite_inputs m) (c : Dev Cert.KernelIdeal.nD) : (KV.argsOf m c).Finite where
  cache := real_of_cmp _ _ (h c).1
  lns := real_of_cmp _ _ (h c).2.1
  lnb := real_of_cmp _ _ (h c).2.2.1
  wq := real_of_cmp _ _ (h c).2.2.2.1
  wk := real_of_cmp _ _ (h c).2.2.2.2

/-- The kernel's attention is the reference's. -/
theorem ctx_eq {a : Args} (ha : a.Finite) : ctxK a = RefV.ctx a :=
  funext fun b => funext fun h => funext fun i => funext fun d => ctxK_eq ha (RefV.shift_isR a ha b h i) b h i d

/-- Arguments with equal arrays are equal. -/
theorem args_eq {a b : Args} (h0 : a.hid = b.hid) (h1 : a.cache = b.cache) (h2 : a.lns = b.lns) (h3 : a.lnb = b.lnb) (h4 : a.wq = b.wq)
    (h5 : a.wk = b.wk) (h6 : a.wv = b.wv) (h7 : a.wo = b.wo) (h8 : a.gate = b.gate) (h9 : a.ls = b.ls) : a = b := by
  cases a
  cases b
  cases h0; cases h1; cases h2; cases h3; cases h4; cases h5; cases h6; cases h7; cases h8; cases h9
  rfl

/-- The kernel and the reference, run from equal arguments, leave equal results. -/
theorem algebraic : Cert.algebraic_KernelIdeal_ReferenceIdeal_pre_finite_inputs := by
  intro m g m' g' hp he
  refine ⟨fun c => (fun i : Cert.KernelIdeal.S2x1024x1024.Idx => out (KV.argsOf m c) (RefV.ctx (KV.argsOf m c)) (i 0) (i 1) (i 2)),
    fun c => (fun i : Cert.KernelIdeal.S4x2x1024x1024.Idx => newCache (KV.argsOf m c) (RefV.ctx (KV.argsOf m c)) (i 0) (i 1) (i 2) (i 3)), ?_, ?_⟩
  · refine (θ_run _ _ _).mono (fun r h c => ⟨?_, ?_, (h c).2.2⟩) (KV.run m g)
    · beta_reduce
      rw [← ctx_eq (finite m hp c)]
      exact (h c).1.trans ((Cert.KernelIdeal.Gen.W5_arr m g c 8).trans (KV.out_arr m g c))
    · beta_reduce
      rw [← ctx_eq (finite m hp c)]
      exact (h c).2.1.trans ((Cert.KernelIdeal.Gen.W5_arr m g c 9).trans (KV.nc_arr m g c))
  · refine (θ_run _ _ _).mono (fun r h c => ?_) (RefV.run_vals m' g')
    have e : RefV.argsOf m' c = KV.argsOf m c := by
      obtain ⟨h0, h1, h2, h3, h4, h5, h6, h7, h8, h9⟩ := he c
      exact args_eq h0 h1 h2 h3 h4 h5 h6 h7 h8 h9
    have hc := h c
    rw [e] at hc
    exact hc

end Cert.Alg

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite_inputs
public import proofs.«01_k».proof.Proof.RefRun
public import proofs.«01_k».proof.Proof.Alg

@[expose] public section

noncomputable section

namespace Cert.Proof

open Idealize.ShloMosaic Idealize.SL.Sem

/-- The rounded constant the queries are scaled by is named by `1 / (8 ln 2)`. -/
theorem preserves : Cert.preserves_Kernel_KernelIdeal :=
  IdealRules.named_const.statement Cert.KernelIdeal.κ "qscale" .f32 0x3E38AA3B#32 _ rfl

/-- Every claim. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.KernelIdeal.Gen.frame m ρ,
  fun m ρ _ => Cert.RefV.frame m ρ, fun m ρ _ => Cert.RefV.frame m ρ, preserves, Cert.Alg.algebraic⟩

end Cert.Proof

end
